-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S32768x1024 : Shape := ⟨2, ![32768, 1024]⟩
abbrev S16x256x1024 : Shape := ⟨3, ![16, 256, 1024]⟩
abbrev S16 : Shape := ⟨1, ![16]⟩
abbrev S256x256 : Shape := ⟨2, ![256, 256]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x1024 : Shape := ⟨2, ![1, 1024]⟩

abbrev nBuf : Space → Nat
  | .hbm => 8
  | .vmem => 3
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .i1⟩
  | .hbm, ⟨2, _⟩ => ⟨S32768x1024, .f32⟩
  | .hbm, ⟨3, _⟩ => ⟨S32768x1024, .i1⟩
  | .hbm, ⟨4, _⟩ => ⟨S32768x1024, .i8⟩
  | .hbm, ⟨5, _⟩ => ⟨S32768x1024, .i8⟩
  | .hbm, ⟨6, _⟩ => ⟨S32768x1024, .f32⟩
  | .hbm, ⟨7, _⟩ => ⟨S4x8192x1024, .f32⟩
  | .local _ .vmem, ⟨0, _⟩ => ⟨S16x256x1024, .f32⟩
  | .local _ .vmem, ⟨1, _⟩ => ⟨S16x256x1024, .i8⟩
  | .local _ .vmem, ⟨2, _⟩ => ⟨S16x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩

abbrev nD : Nat := 1
abbrev τ : Topo := Topo.v7x

variable {F : FTy → Type} [FloatOps F]

abbrev grid0 : Pipeline.Grid := .none
-- ==== ReferenceIdeal.lean ====
abbrev S4x8192x1024 : Shape := ⟨3, ![4, 8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .i1⟩
  | .hbm, ⟨2, _⟩ => ⟨S_, .f32⟩
  | .hbm, ⟨3, _⟩ => ⟨S4x8192x1024, .f32⟩
  | .hbm, ⟨4, _⟩ => ⟨S4x8192x1024, .f32⟩
  | .hbm, ⟨5, _⟩ => ⟨S_, .f32⟩
  | .hbm, ⟨6, _⟩ => ⟨S_, .f32⟩
  | .hbm, ⟨7, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call1_call0_cst : Ref sig .tc := ⟨.hbm, 5, rfl⟩
abbrev main_call1_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Proof.RingProgram.lean ====
/-
  The masked running sum as a ring of transfers, written as a recursion.

  The kernel walks the 32768 rows in 128 blocks of 256 rows. Each block of the values and of the mask is copied
  from HBM into one of sixteen slots, each block of the result is computed in one of sixteen slots and copied back.
  This file states that program for any buffers of the right shapes: the sixteen loads started first (`prologue`),
  one step per block (`run`), the sixteen last copies waited for (`drain`). It also states the numbers the program
  computes: a block of the result from a block of values, a block of the mask and the row carried in (`outB`).
-/
module

public import Idealize.ShloMosaic.Lib.Tactic
public import Idealize.ShloMosaic.Lib.Transfers

@[expose] public section

noncomputable section

namespace Cert.Proof.RingSum

open Idealize.ShloMosaic Idealize.ShloMosaic.TcCoe
open Idealize.SL Idealize.SL.Sem

/-! ## Shapes -/

/-- All rows. -/
abbrev SX : Shape := ⟨2, ![32768, 1024]⟩
/-- Sixteen slots of one block each. -/
abbrev SB : Shape := ⟨3, ![16, 256, 1024]⟩
/-- One slot, as a rectangle of the sixteen. -/
abbrev SS : Shape := ⟨3, ![1, 256, 1024]⟩
/-- One block. -/
abbrev SK : Shape := ⟨2, ![256, 1024]⟩
/-- One row. -/
abbrev SR : Shape := ⟨2, ![1, 1024]⟩
/-- The square matrix of the block's dot. -/
abbrev ST : Shape := ⟨2, ![256, 256]⟩
/-- Sixteen semaphores, one of them as an array, and as a single semaphore. -/
abbrev SN : Shape := ⟨1, ![16]⟩
abbrev S1 : Shape := ⟨1, ![1]⟩
abbrev S0 : Shape := ⟨0, ![]⟩

/-! ## Offsets are in range -/

/-- Block `b` below 128 lies within the rows. -/
theorem inbK (b : ℕ) (h : b < 128) : ∀ a, (![256 * b, 0] : Fin 2 → Nat) a + SK.size a ≤ SX.size a := by
  intro a; fin_cases a
  · show 256 * b + 256 ≤ 32768; omega
  · show 0 + 1024 ≤ 1024; omega
/-- Slot `k % 16` lies within the sixteen. -/
theorem inbS (k : ℕ) : ∀ a, (![k % 16, 0, 0] : Fin 3 → Nat) a + SS.size a ≤ SB.size a := by
  intro a; fin_cases a
  · show k % 16 + 1 ≤ 16; omega
  · show 0 + 256 ≤ 256; omega
  · show 0 + 1024 ≤ 1024; omega
/-- So does semaphore `k % 16`. -/
theorem inbN (k : ℕ) : ∀ a, (![k % 16] : Fin 1 → Nat) a + S1.size a ≤ SN.size a := by
  intro a; fin_cases a
  show k % 16 + 1 ≤ 16; omega

theorem ssK : SS.Squeezes SK := by decide
theorem sq0 : S1.Squeezes S0 := by decide
theorem castSK : SS.ShapeCasts SK := by decide
theorem castKS : SK.ShapeCasts SS := by decide
theorem posS : 0 < SS.numel := by decide
theorem bcRK : SR.Broadcasts SK := by decide
theorem slR : SK.Slices ![255, 0] SR := by decide
theorem iota0 : ST.Iotas .tc 32 [0] := by decide
theorem iota1 : ST.Iotas .tc 32 [1] := by decide
theorem lt32 : 1 < 32 := by decide

/-- The rectangle of block `b`. -/
abbrev rK (b : ℕ) (h : b < 128) : Rect SX := Rect.unit (s := SX) ![256 * b, 0] SK.size (inbK b h)
/-- The rectangle of slot `k % 16`. -/
abbrev rS (k : ℕ) : Rect SB := Rect.unit (s := SB) ![k % 16, 0, 0] SS.size (inbS k)

/-- Byte blocks are whole words: a block is a multiple of four rows, at a multiple of four rows. -/
theorem wordsK (b : ℕ) (h : b < 128) : (rK b h).WholeWords (EltTy.packing .i8) :=
  .inl (.inr ⟨by decide, rfl, .inl ⟨⟨64 * b, by show 256 * b = 4 * (64 * b); omega⟩, ⟨64, rfl⟩⟩⟩)
/-- So are byte slots. -/
theorem wordsS (k : ℕ) : (rS k).WholeWords (EltTy.packing .i8) :=
  .inl (.inr ⟨by decide, rfl, .inl ⟨⟨0, rfl⟩, ⟨64, rfl⟩⟩⟩)

/-! ## The numbers -/

section Numbers
variable {F : FTy → Type} [FloatOps F]

/-- The block's dot contracts the columns of the square matrix with the rows of the block. -/
def dotd : DotDims ST SK SK where
  lhsContracting := [1]
  rhsContracting := [0]
  lhsNonContracting := [0]
  rhsNonContracting := [1]
  lhsBatch := []
  rhsBatch := []
  wf := by decide

/-- The lower triangle of ones. -/
def tri : FVec F ST .f32 :=
  sitofp .f32 (extui 32 (cmpi .sge (iota .tc ST 32 [0] iota0) (iota .tc ST 32 [1] iota1)) lt32)

/-- A row of zeros. -/
def zrow : FVec F SR .f32 := broadcast SR (Scalar.ofBits .f32 0x00000000#32)

/-- The block of values with the entries outside the mask replaced by zero. -/
def maskB (m : IVec SK 8) (x : FVec F SK .f32) : FVec F SK .f32 :=
  select (cmpi .ne m (broadcast SK (0#8))) x (broadcast SK (Scalar.ofBits .f32 0x00000000#32))

/-- A block of the result: the running sums within the block, plus the row carried in. -/
def outB (x : FVec F SK .f32) (m : IVec SK 8) (c : FVec F SR .f32) : FVec F SK .f32 :=
  addf (matmul dotd none tri (maskB m x) (constant SK .f32 0x00000000#32)) (broadcastTo SK c bcRK)

/-- The block's last row. -/
def lastR (o : FVec F SK .f32) : FVec F SR .f32 := extractStridedSlice SR ![255, 0] o slR

/-- The row carried into block `i`: zero at the first block of each of the four sequences. -/
def carryIn (i : ℕ) (c : FVec F SR .f32) : FVec F SR .f32 := if i % 32 = 0 then zrow else c

/-- At the first block of a sequence the carried row is zero, -/
theorem carry_reset {i : ℕ} {c : FVec F SR .f32} (h : i % 32 = 0) : carryIn i c = zrow := if_pos h
/-- and elsewhere it is the one the last block left. -/
theorem carry_keep {i : ℕ} {c : FVec F SR .f32} (h : i % 32 ≠ 0) : carryIn i c = c := if_neg h

/-- A block of the result off the two slots as loaded. -/
def stepOut (i : ℕ) (c : FVec F SR .f32) (x : FVec F SS .f32) (m : IVec SS 8) : FVec F SK .f32 :=
  outB (shapeCast SK x castSK) (shapeCast SK m castSK) (carryIn i c)

end Numbers

/-! ## The buffers -/

/-- The kernel's operands: the values, the mask and the result in HBM, sixteen slots for each in VMEM, and sixteen
    semaphores for each. -/
structure Ops (sig : RefSig) where
  x : Memref sig .tc .hbm SX .f32
  m : Memref sig .tc .hbm SX .i8
  o : Memref sig .tc .hbm SX .f32
  xb : Memref sig .tc .vmem SB .f32
  mb : Memref sig .tc .vmem SB .i8
  ob : Memref sig .tc .vmem SB .f32
  sx : DmaSems sig SN
  sm : DmaSems sig SN
  so : DmaSems sig SN
  hm : m.IsWhole
  hmb : mb.IsWhole

section Program

variable {nD : Nat} {τ : Topo} {sig : RefSig} {F : FTy → Type} [FloatOps F] {Λ : Labels}

/-- Block `b` of a buffer of rows. -/
def blk {e : EltTy} (M : Memref sig .tc .hbm SX e) (b : ℕ) (h : b < 128) : Memref sig .tc .hbm SK e :=
  M.slice (rK b h) (fun _ => rfl)
/-- Slot `k % 16` of a buffer of slots. -/
def slot {e : EltTy} (M : Memref sig .tc .vmem SB e) (k : ℕ) : Memref sig .tc .vmem SK e :=
  (M.slice (rS k) (fun _ => rfl)).squeeze SK ssK
/-- Semaphore `k % 16`. -/
def cell (A : DmaSems sig SN) (k : ℕ) : DmaSem sig :=
  ((A.slice (Rect.unit (s := SN) ![k % 16] S1.size (inbN k))).squeeze S0 sq0).sem

variable (A : Ops sig)

/-- Start the load of block `b` of the values. -/
def startX (b : ℕ) (h : b < 128) : TpuEff nD τ sig (Elt F) Λ .tc PUnit :=
  .enqueueDma (blk A.x b h) (.here (slot A.xb b)) (.dma (cell A.sx b)) (View.wordExact_bits rfl)
    ((View.wordExact_bits rfl).reshape _ _) ⟨Or.inl rfl, trivial⟩
/-- Start the load of block `b` of the mask. -/
def startM (b : ℕ) (h : b < 128) : TpuEff nD τ sig (Elt F) Λ .tc PUnit :=
  .enqueueDma (blk A.m b h) (.here (slot A.mb b)) (.dma (cell A.sm b)) (A.hm.wordExact_slice rfl _ (wordsK b h))
    ((A.hmb.wordExact_slice rfl _ (wordsS b)).reshape _ _) ⟨Or.inl rfl, trivial⟩
/-- Start the copy of block `b` of the result. -/
def startO (b : ℕ) (h : b < 128) : TpuEff nD τ sig (Elt F) Λ .tc PUnit :=
  .enqueueDma (slot A.ob b) (.here (blk A.o b h)) (.dma (cell A.so b)) ((View.wordExact_bits rfl).reshape _ _)
    (View.wordExact_bits rfl) ⟨Or.inl rfl, trivial⟩
/-- Wait for the load of block `b` of the values. -/
def waitX (b : ℕ) (h : b < 128) : TpuEff nD τ sig (Elt F) Λ .tc PUnit :=
  .waitDma2 (cell A.sx b) (blk A.x b h) (slot A.xb b) (View.wordExact_bits rfl) ((View.wordExact_bits rfl).reshape _ _)
/-- Wait for the load of block `b` of the mask. -/
def waitM (b : ℕ) (h : b < 128) : TpuEff nD τ sig (Elt F) Λ .tc PUnit :=
  .waitDma2 (cell A.sm b) (blk A.m b h) (slot A.mb b) (A.hm.wordExact_slice rfl _ (wordsK b h))
    ((A.hmb.wordExact_slice rfl _ (wordsS b)).reshape _ _)
/-- Wait for the copy of block `b` of the result. -/
def waitO (b : ℕ) (h : b < 128) : TpuEff nD τ sig (Elt F) Λ .tc PUnit :=
  .waitDma2 (cell A.so b) (slot A.ob b) (blk A.o b h) ((View.wordExact_bits rfl).reshape _ _) (View.wordExact_bits rfl)
/-- Load slot `k % 16` of a buffer of slots. -/
def loadS {e : EltTy} (M : Memref sig .tc .vmem SB e) (k : ℕ) : TpuEff nD τ sig (Elt F) Λ .tc (Vec F SS e) :=
  .load M (rS k).toLoadRect (View.loadsAt_vmem posS)
/-- Store a block into slot `k % 16` of the result's slots. -/
def storeS (k : ℕ) (v : FVec F SK .f32) : TpuEff nD τ sig (Elt F) Λ .tc PUnit :=
  .store A.ob (rS k) (shapeCast SS v castKS) Finset.univ (View.stores_vmem_bits_univ posS rfl) (.inl rfl)

/-- The copies of the last sixteen blocks waited for, from block `b` on, `n` of them. -/
def drain : (n b : ℕ) → n + b = 128 → Prog (TpuEff nD τ sig (Elt F) Λ .tc) PUnit
  | 0, _, _ => .ret ⟨⟩
  | n + 1, b, h => .op (waitO A b (by omega)) fun _ => drain n (b + 1) (by omega)

/-- The end of a step: start the copy of block `i`, then the loads sixteen blocks on where there are any. -/
def stepEnd (i : ℕ) (h : i < 128) (k : Prog (TpuEff nD τ sig (Elt F) Λ .tc) PUnit) : Prog (TpuEff nD τ sig (Elt F) Λ .tc) PUnit :=
  .op (startO A i h) fun _ =>
    if h' : i + 16 < 128 then .op (startX A (i + 16) h') fun _ => .op (startM A (i + 16) h') fun _ => k else k

/-- The middle of a step: load the slots, compute the block and store it. The continuation takes the block's last row. -/
def stepMid (i : ℕ) (c : FVec F SR .f32) (k : FVec F SR .f32 → Prog (TpuEff nD τ sig (Elt F) Λ .tc) PUnit) :
    Prog (TpuEff nD τ sig (Elt F) Λ .tc) PUnit :=
  .op (loadS A.mb i) fun mv => .op (loadS A.xb i) fun xv => .op (loadS A.ob i) fun _ =>
    .op (storeS A i (stepOut i c xv mv)) fun _ => k (lastR (stepOut i c xv mv))

/-- The start of a step: wait for the block's two loads and for the copy that last used the result's slot. -/
def stepBeg (i : ℕ) (h : i < 128) (k : Prog (TpuEff nD τ sig (Elt F) Λ .tc) PUnit) : Prog (TpuEff nD τ sig (Elt F) Λ .tc) PUnit :=
  .op (waitX A i h) fun _ => .op (waitM A i h) fun _ =>
    if 16 ≤ i then .op (waitO A (i - 16) (by omega)) fun _ => k else k

/-- The steps from block `i` on, `n` of them, with the row `c` carried, then the drain. -/
def run : (n i : ℕ) → n + i = 128 → FVec F SR .f32 → Prog (TpuEff nD τ sig (Elt F) Λ .tc) PUnit
  | 0, _, _, _ => drain A 16 112 rfl
  | n + 1, i, h, c =>
    stepBeg A i (by omega) <| stepMid A i c fun c' => stepEnd A i (by omega) <| run n (i + 1) (by omega) c'

/-- The first loads started, from block `b` on, `n` of them, then all the steps. -/
def prologue : (n b : ℕ) → n + b = 16 → Prog (TpuEff nD τ sig (Elt F) Λ .tc) PUnit
  | 0, _, _ => run A 128 0 rfl zrow
  | n + 1, b, h => .op (startX A b (by omega)) fun _ => .op (startM A b (by omega)) fun _ => prologue n (b + 1) (by omega)

/-- The whole program. -/
def ringSum : Prog (TpuEff nD τ sig (Elt F) Λ .tc) PUnit := prologue A 16 0 rfl

/-! ## One step at a time, for reading a program as `ringSum` -/

variable {A}

/-- Two programs that ask for the same effect and continue alike are equal. -/
theorem drain_link {n b : ℕ} {h : n + 1 + b = 128} {p : PUnit → Prog (TpuEff nD τ sig (Elt F) Λ .tc) PUnit}
    (hp : drain A n (b + 1) (by omega) = p ⟨⟩) : drain A (n + 1) b h = .op (waitO A b (by omega)) p := by
  rw [drain, hp]

theorem prologue_link {n b : ℕ} {h : n + 1 + b = 16} {p : PUnit → PUnit → Prog (TpuEff nD τ sig (Elt F) Λ .tc) PUnit}
    (hp : prologue A n (b + 1) (by omega) = p ⟨⟩ ⟨⟩) :
    prologue A (n + 1) b h = .op (startX A b (by omega)) fun u => .op (startM A b (by omega)) fun v => p u v := by
  rw [prologue, hp]

/-- What a step does in its middle, with the row carried in named `c'`. -/
def midOps (i : ℕ) (c' : FVec F SR .f32)
    (p : Vec F SS .i8 → Vec F SS .f32 → Vec F SS .f32 → Prog (TpuEff nD τ sig (Elt F) Λ .tc) PUnit) :
    Prog (TpuEff nD τ sig (Elt F) Λ .tc) PUnit :=
  .op (loadS A.mb i) fun mv => .op (loadS A.xb i) fun xv => .op (loadS A.ob i) fun ov =>
    .op (storeS A i (outB (shapeCast SK xv castSK) (shapeCast SK mv castSK) c')) fun _ => p mv xv ov

omit [FloatOps F] in
/-- Two functions of three arguments that agree everywhere are equal. -/
theorem eq_of_steps {α β γ δ : Type*} {f p : α → β → γ → δ} (h : ∀ a b c, f a b c = p a b c) :
    p = fun a b c => f a b c := by
  funext a b c; exact (h a b c).symm

/-- A step that waits for no copy of the result: blocks 0 to 15. -/
theorem first_link {n i : ℕ} {h : n + 1 + i = 128} {c c' : FVec F SR .f32} (hc : carryIn i c = c') (hi : i < 16)
    {p : Vec F SS .i8 → Vec F SS .f32 → Vec F SS .f32 → Prog (TpuEff nD τ sig (Elt F) Λ .tc) PUnit}
    (hp : ∀ mv xv ov, run A n (i + 1) (by omega)
      (lastR (outB (shapeCast SK xv castSK) (shapeCast SK mv castSK) c')) = p mv xv ov) :
    run A (n + 1) i h c = .op (waitX A i (by omega)) fun _ => .op (waitM A i (by omega)) fun _ =>
      midOps (A := A) i c' fun mv xv ov => .op (startO A i (by omega)) fun _ =>
      .op (startX A (i + 16) (by omega)) fun _ => .op (startM A (i + 16) (by omega)) fun _ => p mv xv ov := by
  subst hc
  obtain rfl := eq_of_steps hp
  simp only [run, stepBeg, stepMid, stepEnd, midOps, stepOut, if_neg (Nat.not_le.2 hi), dif_pos (show i + 16 < 128 by omega)]

/-- A step that waits for a copy of the result and starts further loads: blocks 16 to 111. -/
theorem middle_link {n i : ℕ} {h : n + 1 + i = 128} {c c' : FVec F SR .f32} (hc : carryIn i c = c') (hi : 16 ≤ i)
    (hj : i + 16 < 128)
    {p : Vec F SS .i8 → Vec F SS .f32 → Vec F SS .f32 → Prog (TpuEff nD τ sig (Elt F) Λ .tc) PUnit}
    (hp : ∀ mv xv ov, run A n (i + 1) (by omega)
      (lastR (outB (shapeCast SK xv castSK) (shapeCast SK mv castSK) c')) = p mv xv ov) :
    run A (n + 1) i h c = .op (waitX A i (by omega)) fun _ => .op (waitM A i (by omega)) fun _ =>
      .op (waitO A (i - 16) (by omega)) fun _ =>
      midOps (A := A) i c' fun mv xv ov => .op (startO A i (by omega)) fun _ =>
      .op (startX A (i + 16) (by omega)) fun _ => .op (startM A (i + 16) (by omega)) fun _ => p mv xv ov := by
  subst hc
  obtain rfl := eq_of_steps hp
  simp only [run, stepBeg, stepMid, stepEnd, midOps, stepOut, if_pos hi, dif_pos hj]

/-- A step that waits for a copy of the result and has no further loads to start: blocks 112 to 127. -/
theorem last_link {n i : ℕ} {h : n + 1 + i = 128} {c c' : FVec F SR .f32} (hc : carryIn i c = c') (hi : 112 ≤ i)
    {p : Vec F SS .i8 → Vec F SS .f32 → Vec F SS .f32 → Prog (TpuEff nD τ sig (Elt F) Λ .tc) PUnit}
    (hp : ∀ mv xv ov, run A n (i + 1) (by omega)
      (lastR (outB (shapeCast SK xv castSK) (shapeCast SK mv castSK) c')) = p mv xv ov) :
    run A (n + 1) i h c = .op (waitX A i (by omega)) fun _ => .op (waitM A i (by omega)) fun _ =>
      .op (waitO A (i - 16) (by omega)) fun _ =>
      midOps (A := A) i c' fun mv xv ov => .op (startO A i (by omega)) fun _ => p mv xv ov := by
  subst hc
  obtain rfl := eq_of_steps hp
  simp only [run, stepBeg, stepMid, stepEnd, midOps, stepOut, if_pos (show 16 ≤ i by omega),
    dif_neg (show ¬ i + 16 < 128 by omega)]

/-- The prologue's loads are followed by the steps. -/
theorem prologue_end {b : ℕ} {h : 0 + b = 16} {p : Prog (TpuEff nD τ sig (Elt F) Λ .tc) PUnit}
    (hp : run A 128 0 rfl zrow = p) : prologue A 0 b h = p := hp

/-- The last step is followed by the drain. -/
theorem run_end {i : ℕ} {h : 0 + i = 128} {c : FVec F SR .f32} {p : Prog (TpuEff nD τ sig (Elt F) Λ .tc) PUnit}
    (hp : drain A 16 112 rfl = p) : run A 0 i h c = p := hp

end Program

end Cert.Proof.RingSum

end
-- ==== Proof.RingTriple.lean ====
/-
  What the ring program of `RingProgram.lean` does, in the separation logic.

  A block of a buffer is described by what it holds, seen through the view the program names it by (`hasV`), or just
  held (`anyV`). The three rings (values, mask, result) are the same assertion `chain`: of the 128 blocks those
  below `w` are done, those from `w` to `t` have their transfer in flight, those from `t` on have not started, and the
  slots not in flight are free. A transfer starts a block (`chain_issue`), a wait finishes one (`chain_land`). The
  theorem `ringSum_wp` states that from blocks of values and mask the program leaves the blocks `outAt` in the result.
-/
module

public import proofs.«01_k».proof.Proof.RingProgram
public import Idealize.ShloMosaic.Lib.Pipeline.FrameSuffixV
public import Idealize.ShloMosaic.Lib.Ring
public import Idealize.SL.BI.BigOpNat

@[expose] public section

noncomputable section

namespace Cert.Proof.RingSum

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {F : FTy → Type} [FloatOps F] {Λ : Labels}

local notation "𝕄" => MT nD τ sig Unit (Elt F) ℕ (UR sig nD τ × Counters) ℕ

theorem entails_of_eq {M : Type} [URA M] {P Q : sProp M} (e : P = Q) : P ⊢ Q := e ▸ .rfl

/-! ## A ring of 128 blocks through sixteen slots -/

section Chain
variable {M : Type} [URA M]

/-- Blocks below `w` are done (`B`), from `w` to `t` in flight (`Fl`), from `t` on waiting (`A`); the slots of turns
    `t` to `w + 15` are free (`Sl`). -/
def chain (A B Fl Sl : ℕ → sProp M) (t w : ℕ) : sProp M :=
  iprop(bigSep (Finset.Ico 0 w) B ∗ bigSep (Finset.Ico w t) Fl ∗ bigSep (Finset.Ico t 128) A ∗ bigSep (Finset.Ico t (w + 16)) Sl)

variable {A B Fl Sl : ℕ → sProp M}

/-- Starting block `t` takes the block and a free slot, and gives the block in flight. -/
theorem chain_issue {t w : ℕ} (ht : t < 128) (hs : t < w + 16) (hw : w ≤ t) :
    chain A B Fl Sl t w ⊢ iprop(A t ∗ Sl t ∗ (Fl t -∗ chain A B Fl Sl (t + 1) w)) := by
  unfold chain
  rw [bigSep_Ico_succ_bot ht, bigSep_Ico_succ_bot hs, bigSep_Ico_succ_top hw]
  iintro ⟨HB, HF, ⟨HA, HAs⟩, HS, HSs⟩
  isplitl [HA]; · iexact HA
  isplitl [HS]; · iexact HS
  iintro HFt
  isplitl [HB]; · iexact HB
  isplitl [HFt HF]
  · isplitl [HFt]; · iexact HFt
    iexact HF
  isplitl [HAs]; · iexact HAs
  iexact HSs

/-- Waiting for block `w` takes it from flight, and gives the block done and its slot free again. -/
theorem chain_land {t w : ℕ} (hw : w < t) (ht : t ≤ w + 16) :
    chain A B Fl Sl t w ⊢ iprop(Fl w ∗ (B w -∗ Sl (w + 16) -∗ chain A B Fl Sl t (w + 1))) := by
  unfold chain
  rw [bigSep_Ico_succ_bot hw, bigSep_Ico_succ_top (Nat.zero_le w), show w + 1 + 16 = (w + 16) + 1 by omega,
    bigSep_Ico_succ_top ht]
  iintro ⟨HB, ⟨HF, HFs⟩, HA, HS⟩
  isplitl [HF]; · iexact HF
  iintro HBw HSw
  isplitl [HBw HB]
  · isplitl [HBw]; · iexact HBw
    iexact HB
  isplitl [HFs]; · iexact HFs
  isplitl [HA]; · iexact HA
  isplitl [HSw]; · iexact HSw
  iexact HS

/-- Before anything starts: every block waits and the sixteen slots are free. -/
theorem chain_start : iprop(bigSep (Finset.range 128) A ∗ bigSep (Finset.range 16) Sl) ⊢ chain A B Fl Sl 0 0 := by
  unfold chain
  rw [Finset.range_eq_Ico, Finset.range_eq_Ico]
  simp only [Finset.Ico_self, bigSep_empty]
  iintro ⟨HA, HS⟩
  isplitr; · iempintro
  isplitr; · iempintro
  isplitl [HA] <;> iassumption

/-- At the end every block is done and the sixteen slots are free. -/
theorem chain_end : chain A B Fl Sl 128 128 ⊢ iprop(bigSep (Finset.range 128) B ∗ bigSep (Finset.Ico 128 144) Sl) := by
  unfold chain
  rw [Finset.range_eq_Ico]
  iintro ⟨HB, -, -, HS⟩
  isplitl [HB] <;> iassumption

/-- An assertion about block `k`, for blocks below 128. -/
def onBlk (P : ∀ k, k < 128 → sProp M) (k : ℕ) : sProp M := if h : k < 128 then P k h else iprop(emp)
theorem onBlk_pos {P : ∀ k, k < 128 → sProp M} {k : ℕ} (h : k < 128) : onBlk P k = P k h := dif_pos h

end Chain

/-! ## What a view holds -/

section Views

variable (c : Dev nD) {sp : Space} {s : Shape} {e : EltTy}

/-- The view's elements are held, and reading through the view gives `w`. -/
def hasV (M : Memref sig .tc sp s e) (w : s.Idx → Elt F e) : sProp 𝕄 :=
  iprop(∃ f : Buf (Elt F) (M.view.loc (c : Thread nD τ)), ⌜M.view.read (Elt F) f = w⌝
    ∗ (M.view.loc (c : Thread nD τ) ↦[M.view.set]{fullShare} f))
/-- The view's elements are held, whatever they are. -/
def anyV (M : Memref sig .tc sp s e) : sProp 𝕄 :=
  iprop(∃ f : Buf (Elt F) (M.view.loc (c : Thread nD τ)), (M.view.loc (c : Thread nD τ) ↦[M.view.set]{fullShare} f))

theorem anyV_of_hasV {M : Memref sig .tc sp s e} {w : s.Idx → Elt F e} : (hasV c M w : sProp 𝕄) ⊢ anyV c M := by
  unfold hasV anyV
  iintro ⟨%f, -, H⟩; iexists f; iexact H

variable {defs : Defs nD τ sig (Elt F) Λ} {𝒱 : Variants} {bd : Option 𝒱.V} {α : Type}

/-- The transfer on semaphore `sm` that delivers `D`, of the size of `M`. -/
abbrev flight (sm : DmaSem sig) (M : Memref sig .tc sp s e) (D : sProp 𝕄) : sProp 𝕄 :=
  Transfers.Flight countersEmb (c : Thread nD τ) (.dma sm) () M.view.dmaCredit D

/-- A semaphore at zero. -/
abbrev zeroS (sm : DmaSem sig) : sProp 𝕄 := semVal ((c : Thread nD τ), SemLoc.dma sm) 0

/-- Starting a copy: the source's contents are delivered to the destination. -/
theorem wp_start {sp' : Space} {src : Memref sig .tc sp s e} {dst : Memref sig .tc sp' s e} {sm : DmaSem sig}
    {hsrc : src.view.WordExact} {hdst : dst.view.WordExact}
    {hsem : DmaTarget.Typed (nD := nD) sp (.dma sm) (.here (p := (c : Thread nD τ).2) dst)}
    {k : PUnit → Prog (TpuEff nD τ sig (Elt F) Λ .tc) α} {Q : α → sProp 𝕄} (hs : 0 < s.numel) (w : s.Idx → Elt F e) :
    iprop(hasV c src w ∗ anyV c dst ∗ zeroS c sm)
      ⊢ iprop((flight c sm dst iprop(hasV c dst w ∗ hasV c src w)
              -∗ wp frame (wpE defs 𝒱 (c : Thread nD τ) bd) Set.univ (k ⟨⟩) Q)
          -∗ wp frame (wpE defs 𝒱 (c : Thread nD τ) bd) Set.univ
              (.op (.enqueueDma src (.here dst) (.dma sm) hsrc hdst hsem) k) Q) := by
  unfold hasV anyV
  iintro ⟨⟨%f, %hf, Hs⟩, ⟨%g, Hd⟩, Hz⟩ Hk
  iapply (Transfers.wp_dmaLocal countersEmb 𝒱 (c : Thread nD τ) bd (fs := f) (fd := g) () dst.view.dmaCredit rfl
    (dst.view.dmaCredit_pos hs) (Finset.Subset.refl _)) $$ [Hs Hd Hz]
  · isplitl [Hs]; · iexact Hs
    isplitl [Hd] <;> iassumption
  iintro HF
  iapply Hk
  iapply (Transfers.Flight_mono countersEmb (c : Thread nD τ) ?_) $$ HF
  iintro ⟨Hd, Hs⟩
  isplitl [Hd]
  · iexists (dst.view.write (Elt F) g (src.view.read (Elt F) f) Finset.univ)
    isplitr; · ipureintro; exact (View.read_write_univ _ _).trans hf
    iexact Hd
  · iexists f
    isplitr; · ipureintro; exact hf
    iexact Hs

/-- Waiting for a copy gives what it delivers and the semaphore at zero again. -/
theorem wp_wait {sp' : Space} {src : Memref sig .tc sp s e} {dst : Memref sig .tc sp' s e} {sm : DmaSem sig}
    {hsrc : src.view.WordExact} {hdst : dst.view.WordExact}
    {k : PUnit → Prog (TpuEff nD τ sig (Elt F) Λ .tc) α} {Q : α → sProp 𝕄} {D : sProp 𝕄} :
    iprop(flight c sm dst D ∗ ∃ W, owes (c : Thread nD τ) 0 W)
      ⊢ iprop((iprop(D ∗ zeroS c sm ∗ ∃ W, owes (c : Thread nD τ) 0 W)
              -∗ wp frame (wpE defs 𝒱 (c : Thread nD τ) bd) Set.univ (k ⟨⟩) Q)
          -∗ wp frame (wpE defs 𝒱 (c : Thread nD τ) bd) Set.univ (.op (.waitDma2 sm src dst hsrc hdst) k) Q) := by
  iintro ⟨HF, ⟨%W, HW⟩⟩ Hk
  iapply (Transfers.wp_waitLocal countersEmb 𝒱 (c : Thread nD τ) bd () (W := W) rfl) $$ [HF HW]
  · isplitl [HF] <;> iassumption
  iintro ⟨HD, Hz, HW⟩
  iapply Hk
  isplitl [HD]; · iexact HD
  isplitl [Hz]; · iexact Hz
  iexists _; iexact HW

/-! ### A slot, loaded and stored through the buffer of all slots -/

/-- A slot's elements are its rectangle's. -/
theorem slot_set {e : EltTy} (B : Memref sig .tc .vmem SB e) (k : ℕ) :
    (slot B k).view.set = (B.access (rS k)).set := View.set_reshape _ _

/-- What the slot reads is what the rectangle reads, with the unit axis dropped. -/
theorem slot_read {e : EltTy} (B : Memref sig .tc .vmem SB e) (k : ℕ) (f : Buf (Elt F) ((slot B k).view.loc (c : Thread nD τ))) :
    shapeCast SK ((B.access (rS k)).read (Elt F) f) castSK = (slot B k).view.read (Elt F) f := rfl

/-- Holding a slot's elements is holding its rectangle's. -/
theorem slot_held {e : EltTy} (B : Memref sig .tc .vmem SB e) (k : ℕ) (f : Buf (Elt F) ((slot B k).view.loc (c : Thread nD τ))) :
    ((slot B k).view.loc (c : Thread nD τ) ↦[(slot B k).view.set]{fullShare} f : sProp 𝕄)
      = ((B.access (rS k)).loc (c : Thread nD τ) ↦[(B.access (rS k)).set]{fullShare} f) :=
  congrArg (fun S => ((B.access (rS k)).loc (c : Thread nD τ) ↦[S]{fullShare} f : sProp 𝕄)) (slot_set B k)

/-- Loading a slot that holds `w`. -/
theorem wp_loadS {e : EltTy} {B : Memref sig .tc .vmem SB e} {i : ℕ} {w : SK.Idx → Elt F e}
    {k : Vec F SS e → Prog (TpuEff nD τ sig (Elt F) Λ .tc) α} {Q : α → sProp 𝕄} :
    (hasV c (slot B i) w : sProp 𝕄)
      ⊢ iprop((∀ v : Vec F SS e, ⌜shapeCast SK v castSK = w⌝ -∗ hasV c (slot B i) w
              -∗ wp frame (wpE defs 𝒱 (c : Thread nD τ) bd) Set.univ (k v) Q)
          -∗ wp frame (wpE defs 𝒱 (c : Thread nD τ) bd) Set.univ (.op (loadS B i) k) Q) := by
  unfold hasV
  iintro ⟨%f, %hf, H⟩ Hk
  iapply (wp_load_rect 𝒱 (c : Thread nD τ) bd Set.univ (m := B) (r := rS i) (f := f)
    (Finset.Subset.refl _)) $$ [H]
  · iapply (entails_of_eq (slot_held c B i f)) $$ H
  iintro H
  ihave H := (entails_of_eq (slot_held c B i _).symm) $$ H
  iapply Hk $$ %((B.access (rS i)).read (Elt F) f) %(hf) [H]
  iexists f
  isplitr; · ipureintro; exact hf
  iexact H

/-- Loading a slot that holds anything. -/
theorem wp_loadAny {e : EltTy} {B : Memref sig .tc .vmem SB e} {i : ℕ}
    {k : Vec F SS e → Prog (TpuEff nD τ sig (Elt F) Λ .tc) α} {Q : α → sProp 𝕄} :
    (anyV c (slot B i) : sProp 𝕄)
      ⊢ iprop((∀ v : Vec F SS e, anyV c (slot B i)
              -∗ wp frame (wpE defs 𝒱 (c : Thread nD τ) bd) Set.univ (k v) Q)
          -∗ wp frame (wpE defs 𝒱 (c : Thread nD τ) bd) Set.univ (.op (loadS B i) k) Q) := by
  unfold anyV
  iintro ⟨%f, H⟩ Hk
  iapply (wp_load_rect 𝒱 (c : Thread nD τ) bd Set.univ (m := B) (r := rS i) (f := f)
    (Finset.Subset.refl _)) $$ [H]
  · iapply (entails_of_eq (slot_held c B i f)) $$ H
  iintro H
  ihave H := (entails_of_eq (slot_held c B i _).symm) $$ H
  iapply Hk $$ %((B.access (rS i)).read (Elt F) f) [H]
  iexists f
  iexact H

/-- Storing a block into a slot. -/
theorem wp_storeS {A : Ops sig} {i : ℕ} {w : FVec F SK .f32} {k : PUnit → Prog (TpuEff nD τ sig (Elt F) Λ .tc) α} {Q : α → sProp 𝕄} :
    (anyV c (slot A.ob i) : sProp 𝕄)
      ⊢ iprop((hasV c (slot A.ob i) w -∗ wp frame (wpE defs 𝒱 (c : Thread nD τ) bd) Set.univ (k ⟨⟩) Q)
          -∗ wp frame (wpE defs 𝒱 (c : Thread nD τ) bd) Set.univ (.op (storeS A i w) k) Q) := by
  unfold anyV hasV
  iintro ⟨%f, H⟩ Hk
  iapply (wp_store 𝒱 (c : Thread nD τ) bd Set.univ (m := A.ob) (r := rS i) (S := (A.ob.access (rS i)).set) (f := f)
    (Finset.Subset.refl _)) $$ [H]
  · iapply (entails_of_eq (slot_held c A.ob i f)) $$ H
  iintro H
  ihave H := (entails_of_eq (slot_held c A.ob i
    ((A.ob.access (rS i)).write (Elt F) f (shapeCast SS w castKS) Finset.univ)).symm) $$ H
  iapply Hk
  iexists ((A.ob.access (rS i)).write (Elt F) f (shapeCast SS w castKS) Finset.univ)
  isplitr
  · ipureintro
    refine (slot_read (nD := nD) (τ := τ) c A.ob i _).symm.trans ?_
    refine (congrArg (fun u => shapeCast SK u castSK) (View.read_write_univ (v := A.ob.access (rS i)) f _)).trans ?_
    funext j
    exact congrArg w ((Shape.reshapeEquiv_reshapeEquiv castKS castSK j).trans (Shape.reshapeEquiv_self _ _))
  iexact H

end Views

/-! ## The numbers, block by block -/

section Blocks

variable (X : ℕ → FVec F SK .f32) (Mk : ℕ → IVec SK 8)

/-- The row carried after `i` blocks of values `X` and mask `Mk`. -/
def carryAt : ℕ → FVec F SR .f32
  | 0 => zrow
  | i + 1 => lastR (outB (X i) (Mk i) (carryIn i (carryAt i)))
/-- Block `i` of the result. -/
def outAt (i : ℕ) : FVec F SK .f32 := outB (X i) (Mk i) (carryIn i (carryAt X Mk i))

end Blocks

/-! ## The rings -/

section Rings

variable (c : Dev nD)

theorem posK : 0 < SK.numel := by decide

theorem slot_turn {e : EltTy} (S : Memref sig .tc .vmem SB e) (k : ℕ) : slot S (k + 16) = slot S k := by
  unfold slot rS
  exact congrArg (fun M => Memref.squeeze M SK ssK) (Memref.slice_unit_congr _ (by rw [Nat.add_mod_right]) _ _ _ _)
theorem cell_turn (C : DmaSems sig SN) (k : ℕ) : cell C (k + 16) = cell C k := by
  unfold cell
  exact congrArg (fun M : DmaSems sig S1 => (M.squeeze S0 sq0).sem) (SemArray.slice_unit_congr _ (by rw [Nat.add_mod_right]) _ _)

/-- A slot and its semaphore, free. -/
def free {e : EltTy} (S : Memref sig .tc .vmem SB e) (C : DmaSems sig SN) (k : ℕ) : sProp 𝕄 :=
  iprop(anyV c (slot S k) ∗ zeroS c (cell C k))
theorem free_turn {e : EltTy} (S : Memref sig .tc .vmem SB e) (C : DmaSems sig SN) (k : ℕ) :
    (free c S C (k + 16) : sProp 𝕄) = free c S C k := by
  unfold free; rw [slot_turn, cell_turn]

/-- The ring that loads the blocks `V` of a buffer `B` through the slots `S`. -/
def inRing {e : EltTy} (B : Memref sig .tc .hbm SX e) (S : Memref sig .tc .vmem SB e) (C : DmaSems sig SN)
    (V : ℕ → SK.Idx → Elt F e) (t w : ℕ) : sProp 𝕄 :=
  chain (onBlk fun k h => hasV c (blk B k h) (V k)) (onBlk fun k h => hasV c (blk B k h) (V k))
    (onBlk fun k h => flight c (cell C k) (slot S k) iprop(hasV c (slot S k) (V k) ∗ hasV c (blk B k h) (V k)))
    (free c S C) t w

/-- The ring that copies the blocks `V` from the slots `S` to a buffer `B`. -/
def outRing (B : Memref sig .tc .hbm SX .f32) (S : Memref sig .tc .vmem SB .f32) (C : DmaSems sig SN)
    (V : ℕ → FVec F SK .f32) (t w : ℕ) : sProp 𝕄 :=
  chain (onBlk fun k h => anyV c (blk B k h)) (onBlk fun k h => hasV c (blk B k h) (V k))
    (onBlk fun k h => flight c (cell C k) (blk B k h) iprop(hasV c (blk B k h) (V k) ∗ hasV c (slot S k) (V k)))
    (free c S C) t w

/-- The ring with the slot of its next block taken out. -/
def outHole (B : Memref sig .tc .hbm SX .f32) (S : Memref sig .tc .vmem SB .f32) (C : DmaSems sig SN)
    (V : ℕ → FVec F SK .f32) (t w : ℕ) (h : t < 128) : sProp 𝕄 :=
  iprop(anyV c (blk B t h) ∗ zeroS c (cell C t)
    ∗ (flight c (cell C t) (blk B t h) iprop(hasV c (blk B t h) (V t) ∗ hasV c (slot S t) (V t))
        -∗ outRing c B S C V (t + 1) w))

/-- The core's record of the waits it has made. -/
abbrev waits : sProp 𝕄 := iprop(∃ W, owes (c : Thread nD τ) 0 W)

variable {defs : Defs nD τ sig (Elt F) Λ} {𝒱 : Variants} {bd : Option 𝒱.V} {α : Type}

/-- Starting the next load: what it takes and what it gives. -/
theorem inRing_issue {e : EltTy} {B : Memref sig .tc .hbm SX e} {S : Memref sig .tc .vmem SB e} {C : DmaSems sig SN}
    {V : ℕ → SK.Idx → Elt F e} {t w : ℕ} (ht : t < 128) (hs : t < w + 16) (hw : w ≤ t) :
    (inRing c B S C V t w : sProp 𝕄) ⊢ iprop(hasV c (blk B t ht) (V t) ∗ (anyV c (slot S t) ∗ zeroS c (cell C t))
      ∗ (flight c (cell C t) (slot S t) iprop(hasV c (slot S t) (V t) ∗ hasV c (blk B t ht) (V t))
          -∗ inRing c B S C V (t + 1) w)) := by
  refine (chain_issue ht hs hw).trans (entails_of_eq ?_)
  rw [onBlk_pos ht, onBlk_pos ht]; rfl

/-- Finishing the oldest load: what it takes and what it gives. -/
theorem inRing_land {e : EltTy} {B : Memref sig .tc .hbm SX e} {S : Memref sig .tc .vmem SB e} {C : DmaSems sig SN}
    {V : ℕ → SK.Idx → Elt F e} {t w : ℕ} (hw : w < 128) (ht : w < t) (hs : t ≤ w + 16) :
    (inRing c B S C V t w : sProp 𝕄)
      ⊢ iprop(flight c (cell C w) (slot S w) iprop(hasV c (slot S w) (V w) ∗ hasV c (blk B w hw) (V w))
        ∗ (hasV c (blk B w hw) (V w) -∗ (anyV c (slot S w) ∗ zeroS c (cell C w)) -∗ inRing c B S C V t (w + 1))) := by
  refine (chain_land ht hs).trans (entails_of_eq ?_)
  rw [onBlk_pos hw, onBlk_pos hw, free_turn]; rfl

/-- Starting the next copy: what it takes and what it gives. -/
theorem outRing_issue {B : Memref sig .tc .hbm SX .f32} {S : Memref sig .tc .vmem SB .f32} {C : DmaSems sig SN}
    {V : ℕ → FVec F SK .f32} {t w : ℕ} (ht : t < 128) (hs : t < w + 16) (hw : w ≤ t) :
    (outRing c B S C V t w : sProp 𝕄) ⊢ iprop(anyV c (blk B t ht) ∗ (anyV c (slot S t) ∗ zeroS c (cell C t))
      ∗ (flight c (cell C t) (blk B t ht) iprop(hasV c (blk B t ht) (V t) ∗ hasV c (slot S t) (V t))
          -∗ outRing c B S C V (t + 1) w)) := by
  refine (chain_issue ht hs hw).trans (entails_of_eq ?_)
  rw [onBlk_pos ht, onBlk_pos ht]; rfl

/-- Finishing the oldest copy: what it takes and what it gives. -/
theorem outRing_land {B : Memref sig .tc .hbm SX .f32} {S : Memref sig .tc .vmem SB .f32} {C : DmaSems sig SN}
    {V : ℕ → FVec F SK .f32} {t w : ℕ} (hw : w < 128) (ht : w < t) (hs : t ≤ w + 16) :
    (outRing c B S C V t w : sProp 𝕄)
      ⊢ iprop(flight c (cell C w) (blk B w hw) iprop(hasV c (blk B w hw) (V w) ∗ hasV c (slot S w) (V w))
        ∗ (hasV c (blk B w hw) (V w) -∗ (anyV c (slot S w) ∗ zeroS c (cell C w)) -∗ outRing c B S C V t (w + 1))) := by
  refine (chain_land ht hs).trans (entails_of_eq ?_)
  rw [onBlk_pos hw, onBlk_pos hw, free_turn]; rfl

/-- Starting the next load. -/
theorem wp_issueIn {e : EltTy} {B : Memref sig .tc .hbm SX e} {S : Memref sig .tc .vmem SB e} {C : DmaSems sig SN}
    {V : ℕ → SK.Idx → Elt F e} {t w : ℕ} (ht : t < 128) (hs : t < w + 16) (hw : w ≤ t)
    {hsrc : (blk B t ht).view.WordExact} {hdst : (slot S t).view.WordExact}
    {hsem : DmaTarget.Typed (nD := nD) .hbm (.dma (cell C t)) (.here (p := (c : Thread nD τ).2) (slot S t))}
    {k : PUnit → Prog (TpuEff nD τ sig (Elt F) Λ .tc) α} {Q : α → sProp 𝕄} :
    (inRing c B S C V t w : sProp 𝕄)
      ⊢ iprop((inRing c B S C V (t + 1) w -∗ wp frame (wpE defs 𝒱 (c : Thread nD τ) bd) Set.univ (k ⟨⟩) Q)
          -∗ wp frame (wpE defs 𝒱 (c : Thread nD τ) bd) Set.univ
              (.op (.enqueueDma (blk B t ht) (.here (slot S t)) (.dma (cell C t)) hsrc hdst hsem) k) Q) := by
  iintro H Hk
  ihave H := (inRing_issue c ht hs hw) $$ H
  icases H with ⟨HA, ⟨HS, HZ⟩, HF⟩
  iapply (wp_start c posK (V t)) $$ [HA HS HZ]
  · isplitl [HA]; · iexact HA
    isplitl [HS]; · iexact HS
    iexact HZ
  iintro HFl
  iapply Hk
  iapply HF
  iexact HFl

/-- Waiting for the oldest load: its slot holds the block until it is given back. -/
theorem wp_landIn {e : EltTy} {B : Memref sig .tc .hbm SX e} {S : Memref sig .tc .vmem SB e} {C : DmaSems sig SN}
    {V : ℕ → SK.Idx → Elt F e} {t w : ℕ} (hw : w < 128) (ht : w < t) (hs : t ≤ w + 16)
    {hsrc : (blk B w hw).view.WordExact} {hdst : (slot S w).view.WordExact}
    {k : PUnit → Prog (TpuEff nD τ sig (Elt F) Λ .tc) α} {Q : α → sProp 𝕄} :
    iprop(inRing c B S C V t w ∗ waits c)
      ⊢ iprop((iprop(hasV c (slot S w) (V w) ∗ (anyV c (slot S w) -∗ inRing c B S C V t (w + 1)) ∗ waits c)
              -∗ wp frame (wpE defs 𝒱 (c : Thread nD τ) bd) Set.univ (k ⟨⟩) Q)
          -∗ wp frame (wpE defs 𝒱 (c : Thread nD τ) bd) Set.univ
              (.op (.waitDma2 (cell C w) (blk B w hw) (slot S w) hsrc hdst) k) Q) := by
  iintro ⟨H, HW⟩ Hk
  ihave H := (inRing_land c hw ht hs) $$ H
  icases H with ⟨HF, HB⟩
  iapply (wp_wait c) $$ [HF HW]
  · isplitl [HF]; · iexact HF
    iexact HW
  iintro ⟨⟨HS, HH⟩, HZ, HW⟩
  iapply Hk
  isplitl [HS]; · iexact HS
  isplitl [HB HH HZ]
  · iintro HS
    iapply HB $$ HH
    isplitl [HS]; · iexact HS
    iexact HZ
  iexact HW

/-- Taking out the slot of the next block of the result. -/
theorem outRing_take {B : Memref sig .tc .hbm SX .f32} {S : Memref sig .tc .vmem SB .f32} {C : DmaSems sig SN}
    {V : ℕ → FVec F SK .f32} {t w : ℕ} (ht : t < 128) (hs : t < w + 16) (hw : w ≤ t) :
    (outRing c B S C V t w : sProp 𝕄) ⊢ iprop(anyV c (slot S t) ∗ outHole c B S C V t w ht) := by
  unfold outHole
  iintro H
  ihave H := (outRing_issue c ht hs hw) $$ H
  icases H with ⟨HA, ⟨HS, HZ⟩, HF⟩
  isplitl [HS]; · iexact HS
  isplitl [HA]; · iexact HA
  isplitl [HZ]; · iexact HZ
  iexact HF

/-- Starting the copy of the block its slot holds. -/
theorem wp_issueOut {B : Memref sig .tc .hbm SX .f32} {S : Memref sig .tc .vmem SB .f32} {C : DmaSems sig SN}
    {V : ℕ → FVec F SK .f32} {t w : ℕ} (ht : t < 128)
    {hsrc : (slot S t).view.WordExact} {hdst : (blk B t ht).view.WordExact}
    {hsem : DmaTarget.Typed (nD := nD) .vmem (.dma (cell C t)) (.here (p := (c : Thread nD τ).2) (blk B t ht))}
    {k : PUnit → Prog (TpuEff nD τ sig (Elt F) Λ .tc) α} {Q : α → sProp 𝕄} :
    iprop(hasV c (slot S t) (V t) ∗ outHole c B S C V t w ht)
      ⊢ iprop((outRing c B S C V (t + 1) w -∗ wp frame (wpE defs 𝒱 (c : Thread nD τ) bd) Set.univ (k ⟨⟩) Q)
          -∗ wp frame (wpE defs 𝒱 (c : Thread nD τ) bd) Set.univ
              (.op (.enqueueDma (slot S t) (.here (blk B t ht)) (.dma (cell C t)) hsrc hdst hsem) k) Q) := by
  unfold outHole
  iintro ⟨HS, HA, HZ, HF⟩ Hk
  iapply (wp_start c posK (V t)) $$ [HA HS HZ]
  · isplitl [HS]; · iexact HS
    isplitl [HA]; · iexact HA
    iexact HZ
  iintro HFl
  iapply Hk
  iapply HF
  iexact HFl

/-- Waiting for the oldest copy. -/
theorem wp_landOut {B : Memref sig .tc .hbm SX .f32} {S : Memref sig .tc .vmem SB .f32} {C : DmaSems sig SN}
    {V : ℕ → FVec F SK .f32} {t w : ℕ} (hw : w < 128) (ht : w < t) (hs : t ≤ w + 16)
    {hsrc : (slot S w).view.WordExact} {hdst : (blk B w hw).view.WordExact}
    {k : PUnit → Prog (TpuEff nD τ sig (Elt F) Λ .tc) α} {Q : α → sProp 𝕄} :
    iprop(outRing c B S C V t w ∗ waits c)
      ⊢ iprop((iprop(outRing c B S C V t (w + 1) ∗ waits c)
              -∗ wp frame (wpE defs 𝒱 (c : Thread nD τ) bd) Set.univ (k ⟨⟩) Q)
          -∗ wp frame (wpE defs 𝒱 (c : Thread nD τ) bd) Set.univ
              (.op (.waitDma2 (cell C w) (slot S w) (blk B w hw) hsrc hdst) k) Q) := by
  iintro ⟨H, HW⟩ Hk
  ihave H := (outRing_land c hw ht hs) $$ H
  icases H with ⟨HF, HB⟩
  iapply (wp_wait c) $$ [HF HW]
  · isplitl [HF]; · iexact HF
    iexact HW
  iintro ⟨⟨HH, HS⟩, HZ, HW⟩
  iapply Hk
  isplitl [HB HH HZ HS]
  · iapply HB $$ HH
    isplitl [HS]; · iapply (anyV_of_hasV c) $$ HS
    iexact HZ
  iexact HW

end Rings

/-! ## The program -/

section Steps

variable (A : Ops sig) (c : Dev nD) (X : ℕ → FVec F SK .f32) (Mk : ℕ → IVec SK 8)

/-- The values' ring, the mask's and the result's. -/
abbrev ringX (t w : ℕ) : sProp 𝕄 := inRing c A.x A.xb A.sx X t w
abbrev ringM (t w : ℕ) : sProp 𝕄 := inRing (F := F) c A.m A.mb A.sm Mk t w
abbrev ringO (t w : ℕ) : sProp 𝕄 := outRing c A.o A.ob A.so (outAt X Mk) t w
/-- The result's ring with the slot of block `t` taken out. -/
abbrev holeO (t w : ℕ) (h : t < 128) : sProp 𝕄 := outHole c A.o A.ob A.so (outAt X Mk) t w h

/-- Everything done: the three rings at their end. -/
def done : sProp 𝕄 := iprop(ringX A c X 128 128 ∗ ringM A c Mk 128 128 ∗ ringO A c X Mk 128 128 ∗ waits c)

variable {defs : Defs nD τ sig (Elt F) Λ} {𝒱 : Variants} {bd : Option 𝒱.V}
variable {A X Mk}

/-- The drain finishes the last copies. -/
theorem drain_wp {Q : PUnit → sProp 𝕄} : ∀ (n b : ℕ) (h : n + b = 128), 112 ≤ b →
    iprop(ringO A c X Mk 128 b ∗ waits c ∗ (ringO A c X Mk 128 128 -∗ waits c -∗ Q ⟨⟩))
      ⊢ wp frame (wpE defs 𝒱 (c : Thread nD τ) bd) Set.univ (drain A n b h) Q
  | 0, b, h, _ => by
    obtain rfl : b = 128 := by omega
    unfold drain
    iintro ⟨HO, HW, HQ⟩
    irw [wp_ret]
    imodintro
    iapply HQ $$ HO HW
  | n + 1, b, h, hb => by
    have h1 : b < 128 := by omega
    have h2 : 128 ≤ b + 16 := by omega
    unfold drain waitO
    iintro ⟨HO, HW, HQ⟩
    iapply (wp_landOut c (S := A.ob) (B := A.o) (hsrc := (View.wordExact_bits rfl).reshape _ _) (hdst := View.wordExact_bits rfl) (t := 128) (w := b) h1 h1 h2) $$ [HO HW]
    · isplitl [HO]; · iexact HO
      iexact HW
    iintro ⟨HO, HW⟩
    have h3 : n + (b + 1) = 128 := by omega
    have h4 : 112 ≤ b + 1 := by omega
    iapply (drain_wp n (b + 1) h3 h4)
    isplitl [HO]; · iexact HO
    isplitl [HW]; · iexact HW
    iexact HQ

/-- The start of step `i`: both slots hold their blocks, and a slot is free for the result. -/
theorem stepBeg_wp {i T : ℕ} (h : i < 128) (hT : i < T) (hT' : T ≤ i + 16) {k : Prog (TpuEff nD τ sig (Elt F) Λ .tc) PUnit} {Q : PUnit → sProp 𝕄} :
    iprop(ringX A c X T i ∗ ringM A c Mk T i ∗ ringO A c X Mk i (i - 16) ∗ waits c)
      ⊢ iprop((iprop((hasV c (slot A.xb i) (X i) ∗ (anyV c (slot A.xb i) -∗ ringX A c X T (i + 1)))
            ∗ (hasV (F := F) c (slot A.mb i) (Mk i) ∗ (anyV c (slot A.mb i) -∗ ringM A c Mk T (i + 1)))
            ∗ ringO A c X Mk i (i + 1 - 16) ∗ waits c)
          -∗ wp frame (wpE defs 𝒱 (c : Thread nD τ) bd) Set.univ k Q)
        -∗ wp frame (wpE defs 𝒱 (c : Thread nD τ) bd) Set.univ (stepBeg A i h k) Q) := by
  unfold stepBeg waitX waitM
  iintro ⟨HX, HM, HO, HW⟩ Hk
  iapply (wp_landIn c (S := A.xb) (B := A.x) (hsrc := View.wordExact_bits rfl) (hdst := (View.wordExact_bits rfl).reshape _ _) h hT hT') $$ [HX HW]
  · isplitl [HX]; · iexact HX
    iexact HW
  iintro ⟨HXs, HX, HW⟩
  iapply (wp_landIn c (S := A.mb) (B := A.m) (hsrc := A.hm.wordExact_slice rfl _ (wordsK i h)) (hdst := (A.hmb.wordExact_slice rfl _ (wordsS i)).reshape _ _) h hT hT') $$ [HM HW]
  · isplitl [HM]; · iexact HM
    iexact HW
  iintro ⟨HMs, HM, HW⟩
  split
  · have h1 : i - 16 < 128 := by omega
    have h2 : i - 16 < i := by omega
    have h3 : i ≤ i - 16 + 16 := by omega
    unfold waitO
    iapply (wp_landOut c (S := A.ob) (B := A.o) (hsrc := (View.wordExact_bits rfl).reshape _ _) (hdst := View.wordExact_bits rfl) (t := i) (w := i - 16) h1 h2 h3) $$ [HO HW]
    · isplitl [HO]; · iexact HO
      iexact HW
    iintro ⟨HO, HW⟩
    iapply Hk
    isplitl [HXs HX]
    · isplitl [HXs]; · iexact HXs
      iexact HX
    isplitl [HMs HM]
    · isplitl [HMs]; · iexact HMs
      iexact HM
    isplitl [HO]
    · irw [show i + 1 - 16 = i - 16 + 1 by omega]; iexact HO
    iexact HW
  · iapply Hk
    isplitl [HXs HX]
    · isplitl [HXs]; · iexact HXs
      iexact HX
    isplitl [HMs HM]
    · isplitl [HMs]; · iexact HMs
      iexact HM
    isplitl [HO]
    · irw [show i + 1 - 16 = i - 16 by omega]; iexact HO
    iexact HW

/-- The middle of step `i`: block `i` of the result is in its slot, and its last row is carried on. -/
theorem stepMid_wp {i : ℕ} {k : FVec F SR .f32 → Prog (TpuEff nD τ sig (Elt F) Λ .tc) PUnit} {Q : PUnit → sProp 𝕄} :
    iprop(hasV c (slot A.xb i) (X i) ∗ hasV (F := F) c (slot A.mb i) (Mk i) ∗ anyV c (slot A.ob i))
      ⊢ iprop((iprop(hasV c (slot A.xb i) (X i) ∗ hasV (F := F) c (slot A.mb i) (Mk i) ∗ hasV c (slot A.ob i) (outAt X Mk i))
          -∗ wp frame (wpE defs 𝒱 (c : Thread nD τ) bd) Set.univ (k (carryAt X Mk (i + 1))) Q)
        -∗ wp frame (wpE defs 𝒱 (c : Thread nD τ) bd) Set.univ (stepMid A i (carryAt X Mk i) k) Q) := by
  unfold stepMid
  iintro ⟨HX, HM, HO⟩ Hk
  iapply (wp_loadS c) $$ HM
  iintro %mv %hm HM
  iapply (wp_loadS c) $$ HX
  iintro %xv %hx HX
  iapply (wp_loadAny c) $$ HO
  iintro %_ HO
  have e : stepOut i (carryAt X Mk i) xv mv = outAt X Mk i := by
    unfold stepOut outAt; rw [hm, hx]
  irw [e]
  iapply (wp_storeS c) $$ HO
  iintro HO
  iapply Hk
  isplitl [HX]; · iexact HX
  isplitl [HM]; · iexact HM
  iexact HO

/-- The end of step `i`: the result's block is on its way, and so are the loads sixteen blocks on. -/
theorem stepEnd_wp {i w T T' : ℕ} (h : i < 128) (hT : T = min (i + 16) 128) (hT' : T' = min (i + 1 + 16) 128) (hw : w ≤ i) {k : Prog (TpuEff nD τ sig (Elt F) Λ .tc) PUnit} {Q : PUnit → sProp 𝕄} :
    iprop(ringX A c X T (i + 1) ∗ ringM A c Mk T (i + 1)
        ∗ hasV c (slot A.ob i) (outAt X Mk i) ∗ holeO A c X Mk i w h)
      ⊢ iprop((iprop(ringX A c X T' (i + 1) ∗ ringM A c Mk T' (i + 1)
            ∗ ringO A c X Mk (i + 1) w)
          -∗ wp frame (wpE defs 𝒱 (c : Thread nD τ) bd) Set.univ k Q)
        -∗ wp frame (wpE defs 𝒱 (c : Thread nD τ) bd) Set.univ (stepEnd A i h k) Q) := by
  unfold stepEnd startO
  iintro ⟨HX, HM, HS, HO⟩ Hk
  iapply (wp_issueOut c h) $$ [HS HO]
  · isplitl [HS]; · iexact HS
    iexact HO
  iintro HO
  split
  · rename_i h'
    obtain rfl : T = i + 16 := by omega
    obtain rfl : T' = i + 16 + 1 := by omega
    have h1 : i + 16 < i + 1 + 16 := by omega
    have h2 : i + 1 ≤ i + 16 := by omega
    unfold startX startM
    iapply (wp_issueIn c h' h1 h2) $$ HX
    iintro HX
    iapply (wp_issueIn c h' h1 h2) $$ HM
    iintro HM
    iapply Hk
    isplitl [HX]; · iexact HX
    isplitl [HM]; · iexact HM
    iexact HO
  · obtain rfl : T' = T := by omega
    iapply Hk
    isplitl [HX]; · iexact HX
    isplitl [HM]; · iexact HM
    iexact HO

/-- The steps from block `i` on finish all three rings. -/
theorem run_wp : ∀ (n i : ℕ) (h : n + i = 128),
    iprop(ringX A c X (min (i + 16) 128) i ∗ ringM A c Mk (min (i + 16) 128) i ∗ ringO A c X Mk i (i - 16) ∗ waits c)
      ⊢ wp frame (wpE defs 𝒱 (c : Thread nD τ) bd) Set.univ (run A n i h (carryAt X Mk i)) fun _ => done A c X Mk
  | 0, i, h => by
    obtain rfl : i = 128 := by omega
    unfold run
    iintro ⟨HX, HM, HO, HW⟩
    iapply (drain_wp c 16 112 rfl (Nat.le_refl 112))
    isplitl [HO]; · iexact HO
    isplitl [HW]; · iexact HW
    iintro HO HW
    unfold done
    isplitl [HX]; · iexact HX
    isplitl [HM]; · iexact HM
    isplitl [HO]; · iexact HO
    iexact HW
  | n + 1, i, h => by
    have h1 : i < 128 := by omega
    have h2 : i < min (i + 16) 128 := by omega
    have h3 : min (i + 16) 128 ≤ i + 16 := by omega
    have h4 : i < i + 1 - 16 + 16 := by omega
    have h5 : i + 1 - 16 ≤ i := by omega
    unfold run
    iintro H
    iapply (stepBeg_wp c h1 h2 h3) $$ H
    iintro ⟨⟨HXs, HX⟩, ⟨HMs, HM⟩, HO, HW⟩
    ihave HO := (outRing_take c h1 h4 h5) $$ HO
    icases HO with ⟨HS, HO⟩
    iapply (stepMid_wp c) $$ [HXs HMs HS]
    · isplitl [HXs]; · iexact HXs
      isplitl [HMs]; · iexact HMs
      iexact HS
    iintro ⟨HXs, HMs, HS⟩
    iapply (stepEnd_wp c h1 rfl rfl h5) $$ [HXs HX HMs HM HS HO]
    · isplitl [HXs HX]
      · iapply HX
        iapply (anyV_of_hasV c) $$ HXs
      isplitl [HMs HM]
      · iapply HM
        iapply (anyV_of_hasV c) $$ HMs
      isplitl [HS]; · iexact HS
      iexact HO
    iintro ⟨HX, HM, HO⟩
    have h6 : n + (i + 1) = 128 := by omega
    iapply (run_wp n (i + 1) h6)
    isplitl [HX]; · iexact HX
    isplitl [HM]; · iexact HM
    isplitl [HO]; · iexact HO
    iexact HW

/-- The prologue starts the first loads, and the steps finish. -/
theorem prologue_wp : ∀ (n b : ℕ) (h : n + b = 16),
    iprop(ringX A c X b 0 ∗ ringM A c Mk b 0 ∗ ringO A c X Mk 0 0 ∗ waits c)
      ⊢ wp frame (wpE defs 𝒱 (c : Thread nD τ) bd) Set.univ (prologue A n b h) fun _ => done A c X Mk
  | 0, b, h => by
    obtain rfl : b = 16 := by omega
    unfold prologue
    have h0 : 128 + 0 = 128 := rfl
    have := run_wp (defs := defs) (𝒱 := 𝒱) (bd := bd) (A := A) c (X := X) (Mk := Mk) 128 0 h0
    rw [show min (0 + 16) 128 = 16 from rfl, show 0 - 16 = 0 from rfl, show carryAt X Mk 0 = zrow from rfl] at this
    refine this.trans (entails_of_eq ?_)
    congr 1
  | n + 1, b, h => by
    have h1 : b < 128 := by omega
    have h2 : b < 0 + 16 := by omega
    unfold prologue startX startM
    iintro ⟨HX, HM, HO, HW⟩
    iapply (wp_issueIn c h1 h2 (Nat.zero_le b)) $$ HX
    iintro HX
    iapply (wp_issueIn c h1 h2 (Nat.zero_le b)) $$ HM
    iintro HM
    have h3 : n + (b + 1) = 16 := by omega
    iapply (prologue_wp n (b + 1) h3)
    isplitl [HX]; · iexact HX
    isplitl [HM]; · iexact HM
    isplitl [HO]; · iexact HO
    iexact HW

/-- The program takes the three rings from their start to their end. -/
theorem ringSum_wp :
    iprop(ringX A c X 0 0 ∗ ringM A c Mk 0 0 ∗ ringO A c X Mk 0 0 ∗ waits c)
      ⊢ wp frame (wpE defs 𝒱 (c : Thread nD τ) bd) Set.univ (ringSum A) fun _ => done A c X Mk :=
  prologue_wp c 16 0 rfl

end Steps

end Cert.Proof.RingSum

end
-- ==== Proof.RingWhole.lean ====
/-
  The ring program on whole buffers.

  `RingTriple.lean` states what the program does to 128 blocks and sixteen slots. Here the whole buffers are cut into
  those blocks and slots, and put together again after the run. The theorem `ringSum_whole` states the program's effect
  on whole buffers: the values and the mask are unchanged, and the result holds any contents `g` whose blocks are the
  running sums `outAt`.
-/
module

public import proofs.«01_k».proof.Proof.RingTriple

@[expose] public section

noncomputable section

namespace Cert.Proof.RingSum

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {F : FTy → Type} [FloatOps F] {Λ : Labels}

local notation "𝕄" => MT nD τ sig Unit (Elt F) ℕ (UR sig nD τ × Counters) ℕ

/-! ## The blocks cover the rows, the slots cover the buffer of slots -/

/-- The rows of block `b`. -/
theorem mem_rK (b : ℕ) (h : b < 128) (y : SX.Idx) : y ∈ (rK b h).set ↔ (y 0).val / 256 = b := by
  rw [Rect.mem_set_unit]
  have h1 : (y 1).val < 1024 := (y 1).isLt
  constructor
  · intro H; have a0 : 256 * b ≤ (y 0).val ∧ (y 0).val < 256 * b + 256 := H 0; omega
  · intro H i; fin_cases i
    · show 256 * b ≤ (y 0).val ∧ (y 0).val < 256 * b + 256; omega
    · show 0 ≤ (y 1).val ∧ (y 1).val < 0 + 1024; omega
/-- The elements of slot `k % 16`. -/
theorem mem_rS (k : ℕ) (y : SB.Idx) : y ∈ (rS k).set ↔ (y 0).val = k % 16 := by
  rw [Rect.mem_set_unit]
  have h1 : (y 1).val < 256 := (y 1).isLt
  have h2 : (y 2).val < 1024 := (y 2).isLt
  constructor
  · intro H; have a0 : k % 16 ≤ (y 0).val ∧ (y 0).val < k % 16 + 1 := H 0; omega
  · intro H i; fin_cases i
    · show k % 16 ≤ (y 0).val ∧ (y 0).val < k % 16 + 1; omega
    · show 0 ≤ (y 1).val ∧ (y 1).val < 0 + 256; omega
    · show 0 ≤ (y 2).val ∧ (y 2).val < 0 + 1024; omega

section Sets
variable {e : EltTy}

/-- A block's elements, within the buffer. -/
def blkSet (M : Memref sig .tc .hbm SX e) (b : ℕ) (h : b < 128) : Finset M.view.ty.Idx := (rK b h).set.map M.view.emb
/-- A slot's elements, within the buffer. -/
def slotSet (M : Memref sig .tc .vmem SB e) (k : ℕ) : Finset M.view.ty.Idx := (rS k).set.map M.view.emb
/-- They are the elements of the view the program names the block by, -/
theorem blk_set (M : Memref sig .tc .hbm SX e) (b : ℕ) (h : b < 128) :
    (blk M b h).view.set = blkSet M b h := View.set_slice _ _
/-- and of the view it names the slot by. -/
theorem slot_set' (M : Memref sig .tc .vmem SB e) (k : ℕ) :
    (slot M k).view.set = slotSet M k := (View.set_reshape _ _).trans (View.set_slice _ _)

/-- Two blocks share no element. -/
theorem blk_disjoint (M : Memref sig .tc .hbm SX e) (b b' : Fin 128) (hne : b ≠ b') :
    Disjoint (blkSet M b b.2) (blkSet M b' b'.2) := by
  refine (Finset.disjoint_map _).mpr (Finset.disjoint_left.mpr fun y hy hy' => hne (Fin.ext ?_))
  rw [mem_rK] at hy hy'; exact hy.symm.trans hy'
/-- Two slots share no element. -/
theorem slot_disjoint (M : Memref sig .tc .vmem SB e) (k k' : Fin 16) (hne : k ≠ k') :
    Disjoint (slotSet M k) (slotSet M k') := by
  refine (Finset.disjoint_map _).mpr (Finset.disjoint_left.mpr fun y hy hy' => hne (Fin.ext ?_))
  rw [mem_rS] at hy hy'; have := k.2; have := k'.2; omega
/-- The blocks together are the buffer. -/
theorem blk_cover (M : Memref sig .tc .hbm SX e) :
    (Finset.univ : Finset (Fin 128)).biUnion (fun b => blkSet M b b.2) = M.view.set := by
  ext i
  rw [Finset.mem_biUnion]
  constructor
  · rintro ⟨b, -, hi⟩
    obtain ⟨y, -, rfl⟩ := Finset.mem_map.mp hi
    exact M.view.emb_mem_set y
  · intro hi
    obtain ⟨y, -, rfl⟩ := Finset.mem_map.mp (show i ∈ Finset.univ.map M.view.emb from hi)
    have h0 : (y 0).val < 32768 := (y 0).isLt
    exact ⟨⟨(y 0).val / 256, by omega⟩, Finset.mem_univ _, Finset.mem_map_of_mem _ ((mem_rK _ _ y).mpr rfl)⟩
/-- The slots together are the buffer of slots. -/
theorem slot_cover (M : Memref sig .tc .vmem SB e) :
    (Finset.univ : Finset (Fin 16)).biUnion (fun k => slotSet M k) = M.view.set := by
  ext i
  rw [Finset.mem_biUnion]
  constructor
  · rintro ⟨b, -, hi⟩
    obtain ⟨y, -, rfl⟩ := Finset.mem_map.mp hi
    exact M.view.emb_mem_set y
  · intro hi
    obtain ⟨y, -, rfl⟩ := Finset.mem_map.mp (show i ∈ Finset.univ.map M.view.emb from hi)
    have h0 : (y 0).val < 16 := (y 0).isLt
    exact ⟨⟨(y 0).val, h0⟩, Finset.mem_univ _, Finset.mem_map_of_mem _ ((mem_rS _ y).mpr (Nat.mod_eq_of_lt h0).symm)⟩

end Sets

/-! ## Assertions over the first `n` numbers, two ways -/

section Big
variable {M : Type} [URA M]

/-- Over the numbers below `n`, or over the type of them. -/
theorem bigSep_fin_range (n : ℕ) (P : ℕ → sProp M) :
    bigSep (Finset.univ : Finset (Fin n)) (fun k => P k) = bigSep (Finset.range n) P := by
  have e : Finset.range n = (Finset.univ : Finset (Fin n)).map Fin.valEmbedding := by
    ext k; simp only [Finset.mem_range, Finset.mem_map, Finset.mem_univ, true_and, Fin.valEmbedding_apply]
    exact ⟨fun h => ⟨⟨k, h⟩, rfl⟩, fun ⟨a, ha⟩ => ha ▸ a.2⟩
  rw [e, bigSep_map]; rfl

/-- The blocks' assertions over the numbers below 128. -/
theorem bigSep_blocks (P : ∀ k : ℕ, k < 128 → sProp M) :
    bigSep (Finset.univ : Finset (Fin 128)) (fun b => P b b.2) = bigSep (Finset.range 128) (onBlk P) := by
  rw [← bigSep_fin_range]
  exact bigSep_congr fun b _ => (onBlk_pos b.2).symm

/-- Sixteen turns from 128 on are the sixteen turns from 0 on, for an assertion that repeats every sixteen turns. -/
theorem bigSep_turns (P : ℕ → sProp M) (h : ∀ k, P (k + 16) = P k) :
    bigSep (Finset.Ico 128 144) P = bigSep (Finset.range 16) P := by
  have e : Finset.Ico 128 144 = (Finset.range 16).map (addRightEmbedding 128) := by
    ext k; simp only [Finset.mem_Ico, Finset.mem_map, Finset.mem_range, addRightEmbedding_apply]
    exact ⟨fun h => ⟨k - 128, by omega, by omega⟩, fun ⟨a, ha, e⟩ => by omega⟩
  rw [e, bigSep_map]
  refine bigSep_congr fun k _ => ?_
  show P (k + 128) = P k
  rw [show k + 128 = k + 16 + 16 + 16 + 16 + 16 + 16 + 16 + 16 from rfl, h, h, h, h, h, h, h, h]

end Big

/-! ## Buffers into blocks and slots, and back -/

section Cut
variable {e : EltTy} (c : Dev nD)

/-- The buffer is held with contents `f`. -/
abbrev holds {sp : Space} {s : Shape} (M : Memref sig .tc sp s e) (f : Buf (Elt F) (M.view.loc (c : Thread nD τ))) : sProp 𝕄 :=
  M.view.loc (c : Thread nD τ) ↦[M.view.set]{fullShare} f

/-- A block is held: its elements are held, within the buffer. -/
theorem blk_held (M : Memref sig .tc .hbm SX e) (k : ℕ) (h : k < 128) (f : Buf (Elt F) (M.view.loc (c : Thread nD τ))) :
    (holds c (blk M k h) f : sProp 𝕄) = (M.view.loc (c : Thread nD τ) ↦[blkSet M k h]{fullShare} f) :=
  congrArg (fun I => (M.view.loc (c : Thread nD τ) ↦[I]{fullShare} f : sProp 𝕄)) (blk_set M k h)
/-- A slot is held: its elements are held, within the buffer. -/
theorem slot_held' (S : Memref sig .tc .vmem SB e) (k : ℕ) (f : Buf (Elt F) (S.view.loc (c : Thread nD τ))) :
    (holds c (slot S k) f : sProp 𝕄) = (S.view.loc (c : Thread nD τ) ↦[slotSet S k]{fullShare} f) :=
  congrArg (fun I => (S.view.loc (c : Thread nD τ) ↦[I]{fullShare} f : sProp 𝕄)) (slot_set' S k)

/-- A slot with any contents: its elements with any contents, within the buffer. -/
theorem any_slot (S : Memref sig .tc .vmem SB e) (k : ℕ) :
    (anyV c (slot S k) : sProp 𝕄) ⊢ iprop(∃ f : Buf (Elt F) (S.view.loc (c : Thread nD τ)), S.view.loc (c : Thread nD τ) ↦[slotSet S k]{fullShare} f) := by
  unfold anyV
  iintro ⟨%f, H⟩; iexists f
  iapply (entails_of_eq (slot_held' c S k f)); iexact H

/-- A buffer of rows is its 128 blocks. -/
theorem holds_blocks (M : Memref sig .tc .hbm SX e) (f : Buf (Elt F) (M.view.loc (c : Thread nD τ))) :
    (holds c M f : sProp 𝕄) = bigSep (Finset.range 128) (onBlk fun k h => holds c (blk M k h) f) := by
  rw [← bigSep_blocks]
  exact (Ring.pointsTo_sub_blocks (ℓ := M.view.loc (c : Thread nD τ)) (fun b : Fin 128 => blkSet M b b.2)
    (blk_disjoint M) M.view.set (blk_cover M) f).trans (bigSep_congr fun b _ => (blk_held c M b b.2 f).symm)

/-- Contents that a view reads as the same are the same on its elements. -/
theorem eq_of_read {sp : Space} {s : Shape} (M : Memref sig .tc sp s e) (f g : Buf (Elt F) (M.view.loc (c : Thread nD τ)))
    (h : M.view.read (Elt F) f = M.view.read (Elt F) g) : ∀ i ∈ M.view.set, f i = g i := by
  intro i hi
  obtain ⟨y, -, rfl⟩ := Finset.mem_map.mp hi
  have := congrFun h y
  rw [View.read_apply, View.read_apply] at this
  exact (cast_inj _).mp this

/-- A block known by what it reads is held with any contents that read the same. -/
theorem holds_of_hasV {sp : Space} {s : Shape} (M : Memref sig .tc sp s e) (g : Buf (Elt F) (M.view.loc (c : Thread nD τ)))
    {w : s.Idx → Elt F e} (h : M.view.read (Elt F) g = w) : (hasV c M w : sProp 𝕄) ⊢ holds c M g := by
  unfold hasV
  iintro ⟨%f, %hf, H⟩
  iapply (entails_of_eq (pointsTo_congr (eq_of_read c M f g (hf.trans h.symm))))
  iexact H
/-- And the other way. -/
theorem hasV_of_holds {sp : Space} {s : Shape} (M : Memref sig .tc sp s e) (g : Buf (Elt F) (M.view.loc (c : Thread nD τ)))
    {w : s.Idx → Elt F e} (h : M.view.read (Elt F) g = w) : (holds c M g : sProp 𝕄) ⊢ hasV c M w := by
  unfold hasV
  iintro H; iexists g
  isplitr; · ipureintro; exact h
  iexact H

/-- One entailment under every block. -/
theorem onBlk_mono {M : Type} [URA M] {P Q : ∀ k : ℕ, k < 128 → sProp M} (h : ∀ k hk, P k hk ⊢ Q k hk) (k : ℕ) : onBlk P k ⊢ onBlk Q k := by
  unfold onBlk
  by_cases hk : k < 128
  · simpa only [dif_pos hk] using h k hk
  · simp only [dif_neg hk]; exact .rfl

/-- A buffer whose blocks read `V` is cut into blocks that hold `V`, -/
theorem cut_blocks (M : Memref sig .tc .hbm SX e) (g : Buf (Elt F) (M.view.loc (c : Thread nD τ))) {V : ℕ → SK.Idx → Elt F e}
    (h : ∀ k hk, (blk M k hk).view.read (Elt F) g = V k) :
    (holds c M g : sProp 𝕄) ⊢ bigSep (Finset.range 128) (onBlk fun k hk => hasV c (blk M k hk) (V k)) :=
  (entails_of_eq (holds_blocks c M g)).trans
    (bigSep_mono fun k _ => onBlk_mono (fun k hk => hasV_of_holds c (blk M k hk) g (h k hk)) k)
/-- and put together from them. -/
theorem join_blocks (M : Memref sig .tc .hbm SX e) (g : Buf (Elt F) (M.view.loc (c : Thread nD τ))) {V : ℕ → SK.Idx → Elt F e}
    (h : ∀ k hk, (blk M k hk).view.read (Elt F) g = V k) :
    bigSep (Finset.range 128) (onBlk fun k hk => hasV c (blk M k hk) (V k)) ⊢ (holds c M g : sProp 𝕄) :=
  (bigSep_mono fun k _ => onBlk_mono (fun k hk => holds_of_hasV c (blk M k hk) g (h k hk)) k).trans
    (entails_of_eq (holds_blocks c M g).symm)
/-- A buffer with any contents is cut into blocks with any contents. -/
theorem cut_any (M : Memref sig .tc .hbm SX e) :
    (anyV c M : sProp 𝕄) ⊢ bigSep (Finset.range 128) (onBlk fun k hk => anyV c (blk M k hk)) := by
  unfold anyV
  iintro ⟨%f, H⟩
  ihave H := (entails_of_eq (holds_blocks c M f)) $$ H
  have h : bigSep (Finset.range 128) (onBlk fun k h => holds c (blk M k h) f)
      ⊢ bigSep (Finset.range 128) (onBlk fun k h => (iprop(∃ f : Buf (Elt F) ((blk M k h).view.loc (c : Thread nD τ)), holds c (blk M k h) f) : sProp 𝕄)) :=
    bigSep_mono fun k _ => onBlk_mono (fun k hk => by iintro H; iexists f; iexact H) k
  iapply h; iexact H

/-- A buffer of slots with any contents is its sixteen slots with any contents. -/
theorem cut_slots (S : Memref sig .tc .vmem SB e) :
    (anyV c S : sProp 𝕄) ⊢ bigSep (Finset.univ : Finset (Fin 16)) (fun k => anyV c (slot S k)) := by
  unfold anyV
  iintro ⟨%f, H⟩
  ihave H := (entails_of_eq (Ring.pointsTo_sub_blocks (ℓ := S.view.loc (c : Thread nD τ)) (fun k : Fin 16 => slotSet S k)
    (slot_disjoint S) S.view.set (slot_cover S) f)) $$ H
  have h : bigSep (Finset.univ : Finset (Fin 16)) (fun k => (S.view.loc (c : Thread nD τ) ↦[slotSet S k]{fullShare} f : sProp 𝕄))
      ⊢ bigSep (Finset.univ : Finset (Fin 16)) (fun k => (iprop(∃ f : Buf (Elt F) ((slot S k).view.loc (c : Thread nD τ)), holds c (slot S k) f) : sProp 𝕄)) :=
    bigSep_mono fun k _ => (entails_of_eq (slot_held' c S k f).symm).trans (by iintro H; iexists f; iexact H)
  iapply h; iexact H
/-- Slots with any contents are the buffer with some contents. -/
theorem join_slots (S : Memref sig .tc .vmem SB e) :
    bigSep (Finset.univ : Finset (Fin 16)) (fun k => anyV c (slot S k)) ⊢ (anyV c S : sProp 𝕄) := by
  have h : bigSep (Finset.univ : Finset (Fin 16)) (fun k => anyV c (slot S k))
      ⊢ bigSep (Finset.univ : Finset (Fin 16)) (fun k => (iprop(∃ f : Buf (Elt F) (S.view.loc (c : Thread nD τ)),
          S.view.loc (c : Thread nD τ) ↦[slotSet S k]{fullShare} f) : sProp 𝕄)) :=
    bigSep_mono fun k _ => any_slot c S k
  refine h.trans ?_
  by_cases hn : Nonempty (Buf (Elt F) (S.view.loc (c : Thread nD τ)))
  · refine (bigSep_exists_pi Finset.univ (fun (k : Fin 16) (f : Buf (Elt F) (S.view.loc (c : Thread nD τ))) =>
      (S.view.loc (c : Thread nD τ) ↦[slotSet S k]{fullShare} f : sProp 𝕄))).trans ?_
    unfold anyV
    iintro ⟨%fs, H⟩
    ihave H := (pointsTo_biUnion_join Finset.univ (fun k : Fin 16 => slotSet S k) fs (Classical.choice hn)
      (fun b _ b' _ h => slot_disjoint S b b' h)) $$ H
    icases H with ⟨%g, -, H⟩
    iexists g
    iapply (entails_of_eq (congrArg (fun I => (S.view.loc (c : Thread nD τ) ↦[I]{fullShare} g : sProp 𝕄)) (slot_cover S)))
    iexact H
  · have e : (Finset.univ : Finset (Fin 16)) = insert 0 (Finset.univ.erase 0) := by decide
    rw [e, bigSep_insert (by decide)]
    refine .trans (Q := iprop((∃ f : Buf (Elt F) (S.view.loc (c : Thread nD τ)), S.view.loc (c : Thread nD τ) ↦[slotSet S (0 : Fin 16)]{fullShare} f)
      ∗ _)) .rfl ?_
    iintro ⟨⟨%f, -⟩, -⟩
    exact absurd ⟨f⟩ hn

/-- Sixteen semaphores at zero. -/
def cells (C : DmaSems sig SN) : sProp 𝕄 := bigSep (Finset.univ : Finset (Fin 16)) fun k => zeroS c (cell C k)

/-- Slots and semaphores, free from turn 0 on. -/
theorem free_eq (S : Memref sig .tc .vmem SB e) (C : DmaSems sig SN) :
    bigSep (Finset.range 16) (free c S C) = (iprop(bigSep (Finset.univ : Finset (Fin 16)) (fun k => anyV c (slot S k)) ∗ cells c C) : sProp 𝕄) := by
  rw [← bigSep_fin_range]
  unfold free cells
  exact bigSep_sep ..
theorem free_start (S : Memref sig .tc .vmem SB e) (C : DmaSems sig SN) :
    (iprop(anyV c S ∗ cells c C) : sProp 𝕄) ⊢ bigSep (Finset.range 16) (free c S C) := by
  rw [free_eq]
  iintro ⟨H, HC⟩
  isplitl [H]
  · iapply (cut_slots c S); iexact H
  · iexact HC
/-- Slots and semaphores, free from turn 128 on. -/
theorem free_end (S : Memref sig .tc .vmem SB e) (C : DmaSems sig SN) :
    bigSep (Finset.Ico 128 144) (free c S C) ⊢ (iprop(anyV c S ∗ cells c C) : sProp 𝕄) := by
  rw [bigSep_turns _ (free_turn c S C), free_eq]
  iintro ⟨H, HC⟩
  isplitl [H]
  · iapply (join_slots c S); iexact H
  · iexact HC

/-- A loading ring starts from its buffer, slots and semaphores, -/
theorem inRing_start (B : Memref sig .tc .hbm SX e) (S : Memref sig .tc .vmem SB e) (C : DmaSems sig SN) {V : ℕ → SK.Idx → Elt F e}
    (g : Buf (Elt F) (B.view.loc (c : Thread nD τ))) (h : ∀ k hk, (blk B k hk).view.read (Elt F) g = V k) :
    (iprop(holds c B g ∗ anyV c S ∗ cells c C) : sProp 𝕄) ⊢ inRing c B S C V 0 0 := by
  unfold inRing
  iintro ⟨HB, HS⟩
  iapply chain_start
  isplitl [HB]
  · iapply (cut_blocks c B g h); iexact HB
  · iapply (free_start c S C); iexact HS
/-- and gives them back. -/
theorem inRing_end (B : Memref sig .tc .hbm SX e) (S : Memref sig .tc .vmem SB e) (C : DmaSems sig SN) {V : ℕ → SK.Idx → Elt F e}
    (g : Buf (Elt F) (B.view.loc (c : Thread nD τ))) (h : ∀ k hk, (blk B k hk).view.read (Elt F) g = V k) :
    inRing c B S C V 128 128 ⊢ (iprop(holds c B g ∗ anyV c S ∗ cells c C) : sProp 𝕄) := by
  unfold inRing
  refine chain_end.trans ?_
  iintro ⟨HB, HS⟩
  isplitl [HB]
  · iapply (join_blocks c B g h); iexact HB
  · iapply (free_end c S C); iexact HS
/-- The copying ring starts from its buffer with any contents, -/
theorem outRing_start (B : Memref sig .tc .hbm SX .f32) (S : Memref sig .tc .vmem SB .f32) (C : DmaSems sig SN) {V : ℕ → FVec F SK .f32} :
    (iprop(anyV c B ∗ anyV c S ∗ cells c C) : sProp 𝕄) ⊢ outRing c B S C V 0 0 := by
  unfold outRing
  iintro ⟨HB, HS⟩
  iapply chain_start
  isplitl [HB]
  · iapply (cut_any c B); iexact HB
  · iapply (free_start c S C); iexact HS
/-- and gives it back with contents whose blocks read `V`. -/
theorem outRing_end (B : Memref sig .tc .hbm SX .f32) (S : Memref sig .tc .vmem SB .f32) (C : DmaSems sig SN) {V : ℕ → FVec F SK .f32}
    (g : Buf (Elt F) (B.view.loc (c : Thread nD τ))) (h : ∀ k hk, (blk B k hk).view.read (Elt F) g = V k) :
    outRing c B S C V 128 128 ⊢ (iprop(holds c B g ∗ anyV c S ∗ cells c C) : sProp 𝕄) := by
  unfold outRing
  refine chain_end.trans ?_
  iintro ⟨HB, HS⟩
  isplitl [HB]
  · iapply (join_blocks c B g h); iexact HB
  · iapply (free_end c S C); iexact HS

end Cut

/-! ## The program on whole buffers -/

section Whole

variable (A : Ops sig) (c : Dev nD) {X : ℕ → FVec F SK .f32} {Mk : ℕ → IVec SK 8}

/-- The slots, with any contents, and all semaphores at zero. -/
def scratch : sProp 𝕄 :=
  iprop(anyV c A.xb ∗ anyV (F := F) c A.mb ∗ anyV c A.ob ∗ cells c A.sx ∗ cells c A.sm ∗ cells c A.so)

variable {defs : Defs nD τ sig (Elt F) Λ} {𝒱 : Variants} {bd : Option 𝒱.V}

/-- From values whose blocks are `X` and a mask whose blocks are `Mk`, the program ends with both unchanged and the
    result at `g`, when the blocks of `g` are the running sums of `X` under `Mk`. -/
theorem ringSum_whole (fx : Buf (Elt F) (A.x.view.loc (c : Thread nD τ))) (fm : Buf (Elt F) (A.m.view.loc (c : Thread nD τ)))
    (g : Buf (Elt F) (A.o.view.loc (c : Thread nD τ)))
    (hx : ∀ k hk, (blk A.x k hk).view.read (Elt F) fx = X k) (hm : ∀ k hk, (blk A.m k hk).view.read (Elt F) fm = Mk k)
    (ho : ∀ k hk, (blk A.o k hk).view.read (Elt F) g = outAt X Mk k) :
    iprop(holds c A.x fx ∗ holds c A.m fm ∗ anyV c A.o ∗ scratch A c ∗ waits c)
      ⊢ wp frame (wpE defs 𝒱 (c : Thread nD τ) bd) Set.univ (ringSum A)
          (fun _ => (iprop(holds c A.x fx ∗ holds c A.m fm ∗ holds c A.o g ∗ scratch A c ∗ waits c) : sProp 𝕄)) := by
  have e : done A c X Mk ⊢ (iprop(holds c A.x fx ∗ holds c A.m fm ∗ holds c A.o g ∗ scratch A c ∗ waits c) : sProp 𝕄) := by
    unfold done scratch
    iintro ⟨HX, HM, HO, HW⟩
    ihave HX := (inRing_end c A.x A.xb A.sx fx hx) $$ HX
    ihave HM := (inRing_end c A.m A.mb A.sm fm hm) $$ HM
    ihave HO := (outRing_end c A.o A.ob A.so g ho) $$ HO
    icases HX with ⟨HX, HXb, HXs⟩
    icases HM with ⟨HM, HMb, HMs⟩
    icases HO with ⟨HO, HOb, HOs⟩
    isplitl [HX]; · iexact HX
    isplitl [HM]; · iexact HM
    isplitl [HO]; · iexact HO
    isplitr [HW]
    · isplitl [HXb]; · iexact HXb
      isplitl [HMb]; · iexact HMb
      isplitl [HOb]; · iexact HOb
      isplitl [HXs]; · iexact HXs
      isplitl [HMs]; · iexact HMs
      iexact HOs
    · iexact HW
  refine .trans ?_ ((ringSum_wp (A := A) (X := X) (Mk := Mk) (defs := defs) (𝒱 := 𝒱) (bd := bd) c).trans (wp_mono frame _ _ fun _ => e))
  unfold scratch
  iintro ⟨HX, HM, HO, ⟨HXb, HMb, HOb, HXs, HMs, HOs⟩, HW⟩
  isplitl [HX HXb HXs]
  · iapply (inRing_start c A.x A.xb A.sx fx hx)
    isplitl [HX]; · iexact HX
    isplitl [HXb]; · iexact HXb
    iexact HXs
  isplitl [HM HMb HMs]
  · iapply (inRing_start c A.m A.mb A.sm fm hm)
    isplitl [HM]; · iexact HM
    isplitl [HMb]; · iexact HMb
    iexact HMs
  isplitl [HO HOb HOs]
  · iapply (outRing_start c A.o A.ob A.so)
    isplitl [HO]; · iexact HO
    isplitl [HOb]; · iexact HOb
    iexact HOs
  iexact HW

end Whole

end Cert.Proof.RingSum

end
-- ==== Proof.RingBlocks.lean ====
/-
  Blocks of rows as plain functions.

  `blockOf w k` is block `k` (rows `256 * k` to `256 * k + 255`) of an array of 32768 rows, `ofBlocks` puts 128 blocks
  together into such an array, and `sums x m` is the array that the ring program leaves when it starts from the
  values `x` and the mask `m`.
-/
module

public import proofs.«01_k».proof.Proof.RingWhole
public import Idealize.ShloMosaic.Lib.Pointwise.Index

@[expose] public section

noncomputable section

namespace Cert.Proof.RingSum

open Idealize.ShloMosaic
open Idealize.ShloMosaic.TcCoe
open Idealize.SL.Sem

section Pure
variable {α : Type}

/-- The index of row `r` (taken within the 32768 rows), column `q`. -/
def atRow (r : ℕ) (q : Fin 1024) : SX.Idx := ix2 ⟨r % 32768, Nat.mod_lt _ (by decide)⟩ q
/-- Block `k` of an array of rows. -/
def blockOf (w : SX.Idx → α) (k : ℕ) : SK.Idx → α := fun j => w (atRow (256 * k + (j 0).val) (j 1))
/-- The array whose block `k` is `V k`. -/
def ofBlocks (V : ℕ → SK.Idx → α) : SX.Idx → α :=
  fun i => V ((i 0).val / 256) (ix2 ⟨(i 0).val % 256, Nat.mod_lt _ (by decide)⟩ (i 1))

/-- The blocks of `ofBlocks V` are `V`. -/
theorem blockOf_ofBlocks (V : ℕ → SK.Idx → α) (k : ℕ) (h : k < 128) : blockOf (ofBlocks V) k = V k := by
  funext j
  obtain ⟨a, b, rfl⟩ : ∃ (a : Fin 256) (b : Fin 1024), j = ix2 a b := ⟨j 0, j 1, eq_ix2 j⟩
  have ha := a.isLt
  show V ((256 * k + a.val) % 32768 / 256) (ix2 ⟨(256 * k + a.val) % 32768 % 256, _⟩ b) = V k (ix2 a b)
  have e1 : (256 * k + a.val) % 32768 / 256 = k := by omega
  have e2 : (256 * k + a.val) % 32768 % 256 = a.val := by omega
  simp only [e1, e2]

end Pure

section Read
variable {sig : RefSig} {F : FTy → Type} [FloatOps F] {e : EltTy}

/-- Reading a buffer through the view of its block `k` gives block `k` of what the buffer's own view reads. -/
theorem blk_read (M : Memref sig .tc .hbm SX e) (f : M.view.ty.Contents (Elt F)) (k : ℕ) (h : k < 128) :
    (blk M k h).view.read (Elt F) f = blockOf (M.view.read (Elt F) f) k := by
  funext j
  have e : (rK k h).emb j = atRow (256 * k + (j 0).val) (j 1) := by
    have h0 : (j 0).val < 256 := (j 0).isLt
    funext a
    apply Fin.ext
    fin_cases a
    · show 256 * k + 1 * (j 0).val = (256 * k + (j 0).val) % 32768
      omega
    · show 0 + 1 * (j 1).val = (j 1).val
      omega
  show M.view.read (Elt F) f ((rK k h).emb j) = _
  rw [e]; rfl

end Read

/-- The running sums that the ring program leaves, block by block, put together. -/
def sums {F : FTy → Type} [FloatOps F] (x : FVec F SX .f32) (m : IVec SX 8) : FVec F SX .f32 :=
  ofBlocks (outAt (blockOf x) (blockOf m))

end Cert.Proof.RingSum

end
-- ==== Proof.KernelIdealBody.lean ====
/-
  The body of the idealized kernel is the ring program.

  The printed body is one long sequence of effects: sixteen pairs of loads, 128 steps and sixteen waits. This file
  reads it, one step at a time, as the recursion `ringSum` of `RingProgram.lean`.
-/
module

public import proofs.«01_k».proof.Proof.RingProgram
public import proofs.«01_k».proof.KernelIdeal
public import proofs.«01_k».proof.Proof.Gen.KernelIdeal

@[expose] public section

-- the printed body is a term as deep as it is long
set_option maxRecDepth 65536

noncomputable section

namespace Cert.KernelIdeal

open Idealize.ShloMosaic Idealize.ShloMosaic.TcCoe
open Cert.Proof.RingSum

variable {F : FTy → Type} [FloatOps F] [Facts₀]

set_option maxHeartbeats 4000000 in
/-- For any buffers, the body is the ring program on them. -/
theorem body_eq (arg0 : Memref sig .tc .hbm S32768x1024 .f32) (h0 : arg0.IsWhole)
    (arg1 : Memref sig .tc .hbm S32768x1024 .i8) (h1 : arg1.IsWhole)
    (arg2 : Memref sig .tc .hbm S32768x1024 .f32) (h2 : arg2.IsWhole)
    (arg3 : Memref sig .tc .vmem S16x256x1024 .f32) (h3 : arg3.IsWhole)
    (arg4 : Memref sig .tc .vmem S16x256x1024 .i8) (h4 : arg4.IsWhole)
    (arg5 : Memref sig .tc .vmem S16x256x1024 .f32) (h5 : arg5.IsWhole) (arg6 arg7 arg8 : DmaSems sig S16) :
    ringSum (⟨arg0, arg1, arg2, arg3, arg4, arg5, arg6, arg7, arg8, h1, h4⟩ : Ops sig)
      = cc0__body (F := F) arg0 h0 arg1 h1 arg2 h2 arg3 h3 arg4 h4 arg5 h5 arg6 arg7 arg8 := by
  unfold ringSum
  iterate 16 refine prologue_link ?_
  refine prologue_end ?_
  refine first_link (carry_reset (by decide)) (by decide) fun _ _ _ => ?_
  iterate 15 refine first_link (carry_keep (by decide)) (by decide) fun _ _ _ => ?_
  iterate 16 refine middle_link (carry_keep (by decide)) (by decide) (by decide) fun _ _ _ => ?_
  iterate 2
    refine middle_link (carry_reset (by decide)) (by decide) (by decide) fun _ _ _ => ?_
    iterate 31 refine middle_link (carry_keep (by decide)) (by decide) (by decide) fun _ _ _ => ?_
  refine middle_link (carry_reset (by decide)) (by decide) (by decide) fun _ _ _ => ?_
  iterate 15 refine middle_link (carry_keep (by decide)) (by decide) (by decide) fun _ _ _ => ?_
  iterate 16 refine last_link (carry_keep (by decide)) (by decide) fun _ _ _ => ?_
  refine run_end ?_
  iterate 16 refine drain_link ?_
  rfl

end Cert.KernelIdeal

end
-- ==== Proof.KernelIdealRun.lean ====
/-
  The whole idealized program's run: the host lines, the kernel, the reshape of its result.

  The kernel's three buffers in HBM, its slots and its semaphores are handed to the ring program, which leaves the
  result buffer at the running sums of what the host lines put into the other two (`sums`). `run` states the end of
  every execution: the arguments are unchanged, the result is that array reshaped, every semaphore is at zero.
-/
module

public import proofs.«01_k».proof.Proof.KernelIdealBody
public import proofs.«01_k».proof.Proof.RingBlocks
public import proofs.«01_k».proof.Proof.Gen.KernelIdeal.Frame
public import Idealize.ShloMosaic.Lib.Pipeline.FrameSuffixV

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.RingSum
open Cert.KernelIdeal.Gen (hostOps0 hostOps1 V V0)

variable {F : FTy → Type} [FloatOps F]

local notation "𝕌" => UR sig nD τ × Counters
local notation "𝕄" => MT nD τ sig Unit (Elt F) ℕ (UR sig nD τ × Counters) ℕ

/-! ## The kernel's buffers and semaphores -/

/-- The buffers and semaphores that the kernel is called with. -/
def ops : Ops sig :=
  ⟨Memref.whole main_call0_v0, Memref.whole main_call0_v3, Memref.whole main_call0_v4, Memref.whole cc0_scratch0,
    Memref.whole cc0_scratch1, Memref.whole cc0_scratch2, cc0_scratch3, cc0_scratch4, cc0_scratch5,
    Memref.isWhole_whole _, Memref.isWhole_whole _⟩

/-- Its forty-eight semaphores: sixteen for the values, sixteen for the mask, sixteen for the result. -/
def osem (p : Fin 3 × Fin 16) : SemLoc sig := .dma (cell (![cc0_scratch3, cc0_scratch4, cc0_scratch5] p.1) p.2)
/-- They are the kernel's own and pairwise distinct. -/
theorem ownSemFacts : Pipeline.OwnSemFacts cfg0.spec osem := by decide

/-- The kernel's semaphores at zero, family by family. -/
theorem ownSems_eq (c : Dev nD) :
    (Pipeline.ownSems0 (Ix := Unit) (Name := ℕ) (U := 𝕌) (Lvl := ℕ) (Val := Elt F) (τ := τ) osem c : sProp 𝕄)
      = iprop(cells c ops.sx ∗ cells c ops.sm ∗ cells c ops.so) := by
  unfold Pipeline.ownSems0
  rw [bigSep_univ_prod]
  exact bigSep_univ_eq_bigSepL [(0 : Fin 3), 1, 2] (by decide) (by decide) _

/-- A whole buffer with any contents. -/
theorem anyV_whole (c : Dev nD) (b : Ref sig .tc) :
    (anyV c (Memref.whole b) : sProp 𝕄) = iprop(∃ f : Buf (Elt F) ((c : Thread nD τ).loc b), ((c : Thread nD τ).loc b) ↦{fullShare} f) := by
  unfold anyV
  exact congrArg (fun I => (iprop(∃ f : Buf (Elt F) ((c : Thread nD τ).loc b), ((c : Thread nD τ).loc b) ↦[I]{fullShare} f) : sProp 𝕄)) (View.set_whole b)
/-- A whole buffer with given contents. -/
theorem holds_whole (c : Dev nD) (b : Ref sig .tc) (f : Buf (Elt F) ((c : Thread nD τ).loc b)) :
    (holds c (Memref.whole b) f : sProp 𝕄) = (((c : Thread nD τ).loc b) ↦{fullShare} f) :=
  congrArg (fun I => (((c : Thread nD τ).loc b) ↦[I]{fullShare} f : sProp 𝕄)) (View.set_whole b)

variable (m : (ℓ : Loc nD τ sig) → Buf (Elt F) ℓ) (ρ : Dev nD → PrngReg)

/-! ## What the kernel leaves -/

/-- The values and the mask as the host lines leave them for the kernel. -/
def xIn (c : Dev nD) : FVec F SX .f32 := V m c main_call0_v0
def mIn (c : Dev nD) : IVec SX 8 := V m c main_call0_v3
/-- What the kernel leaves in its result buffer. -/
def out (c : Dev nD) : FVec F SX .f32 := sums (xIn m c) (mIn m c)
/-- The same as contents for every buffer: only the result buffer changes. -/
def G (c : Dev nD) (b : Ref sig .tc) : Buf (Elt F) ((c : Thread nD τ).loc b) :=
  if h : main_call0_v4 = b then h ▸ (out m c : Buf (Elt F) ((c : Thread nD τ).loc main_call0_v4)) else V m c b
theorem G_out (c : Dev nD) : G m c main_call0_v4 = out m c := dif_pos rfl

/-- Before and after the kernel: the inputs held, the result held (with any contents before, the running sums after),
    the slots and semaphores free. -/
def before (c : Dev nD) : sProp 𝕄 :=
  iprop(holds c ops.x (V m c main_call0_v0) ∗ holds c ops.m (V m c main_call0_v3) ∗ anyV c ops.o ∗ scratch ops c)
def after (c : Dev nD) : sProp 𝕄 :=
  iprop(holds c ops.x (V m c main_call0_v0) ∗ holds c ops.m (V m c main_call0_v3) ∗ holds c ops.o (out m c) ∗ scratch ops c)

/-- The kernel's invariant at the start and at the end. -/
def phi (k : ℕ) (c : Dev nD) : sProp 𝕄 := if k = 0 then before m c else after m c

/-- The kernel has no window and one point; its invariant goes from `before` to `after`. -/
def dats (_ : Fin 1) (c : Dev nD) : Dat τ (Elt F) Unit ℕ 𝕌 ℕ cfg0 c where
  A w := w.elim0
  after w _ := w.elim0
  Φ t := phi m t.val c
  q _ := fullShare
  owed _ := 0

/-! ## The body -/

/-- The ring program goes from `before` to `after`. -/
theorem body_ring (c : Dev nD) {defs : Defs nD τ sig (Elt F) Λ₀} {𝒱 : Variants} {bd : Option 𝒱.V} :
    iprop(before m c ∗ waits c) ⊢ wp frame (wpE defs 𝒱 (c : Thread nD τ) bd) Set.univ (ringSum ops)
      (fun _ => (iprop(after m c ∗ waits c) : sProp 𝕄)) := by
  have h := ringSum_whole (nD := nD) (τ := τ) (defs := defs) (𝒱 := 𝒱) (bd := bd) ops c (V m c main_call0_v0) (V m c main_call0_v3) (out m c)
    (X := blockOf (xIn m c)) (Mk := blockOf (mIn m c))
    (fun k hk => blk_read _ _ k hk) (fun k hk => blk_read _ _ k hk)
    (fun k hk => (blk_read _ _ k hk).trans (blockOf_ofBlocks (outAt (blockOf (xIn m c)) (blockOf (mIn m c))) k hk))
  refine .trans ?_ (h.trans (wp_mono frame _ _ fun _ => ?_))
  · unfold before
    iintro ⟨⟨H1, H2, H3, H4⟩, HW⟩
    isplitl [H1]; · iexact H1
    isplitl [H2]; · iexact H2
    isplitl [H3]; · iexact H3
    isplitl [H4]; · iexact H4
    iexact HW
  · unfold after
    iintro ⟨H1, H2, H3, H4, HW⟩
    isplitr [HW]
    · isplitl [H1]; · iexact H1
      isplitl [H2]; · iexact H2
      isplitl [H3]; · iexact H3
      iexact H4
    iexact HW

/-- So does any program equal to it, whatever follows. -/
theorem body_run (c : Dev nD) {defs : Defs nD τ sig (Elt F) Λ₀} {𝒱 : Variants} {bd : Option 𝒱.V}
    {p : Prog (TpuEff nD τ sig (Elt F) Λ₀ .tc) PUnit} (e : p = ringSum ops) {Q : PUnit → sProp 𝕄} :
    iprop((before m c ∗ waits c) ∗ (∀ a, iprop(after m c ∗ waits c) -∗ Q a)) ⊢ wp frame (wpE defs 𝒱 (c : Thread nD τ) bd) Set.univ p Q := by
  subst e
  refine .trans ?_ (wp_wand_r frame _ _ (Q := fun _ => iprop(after m c ∗ waits c)))
  iintro ⟨H, HQ⟩
  isplitl [H]
  · iapply (body_ring m c); iexact H
  · iexact HQ

/-- What the call's label stands for. -/
theorem defs_tc : (defs₀ (F := F)) .tc cfg0.body
    = fun _ => cc0__body (Memref.whole main_call0_v0) (Memref.isWhole_whole _) (Memref.whole main_call0_v3) (Memref.isWhole_whole _)
        (Memref.whole main_call0_v4) (Memref.isWhole_whole _) (Memref.whole cc0_scratch0) (Memref.isWhole_whole _)
        (Memref.whole cc0_scratch1) (Memref.isWhole_whole _) (Memref.whole cc0_scratch2) (Memref.isWhole_whole _)
        cc0_scratch3 cc0_scratch4 cc0_scratch5 := rfl
/-- The call runs the ring program. -/
theorem prog_eq (t : Fin cfg0.N) : (defs₀ (F := F)) .tc 0 (t, cfg0.slots t) = ringSum ops :=
  (congrFun defs_tc _).trans (body_eq ..).symm

set_option backward.isDefEq.respectTransparency.types false in
theorem body_obligation (𝒱₀ : Variants) (c : Dev nD) : BodyObligation (dats (F := F) m 0 c) (defs₀ (F := F)) 𝒱₀ () Set.univ := fun t => by
  have hN : cfg0.N = 1 := Gen.N_0
  have ht : t.val = 0 := by have := t.isLt; omega
  simp only [Finset.univ_eq_empty, bigSep_empty]
  rw [show (dats m 0 c).Φ t.castSucc = phi m t.val c from rfl, show phi m t.val c = before m c from if_pos ht,
    show (dats m 0 c).Φ t.succ = phi m (t.val + 1) c from rfl, show phi m (t.val + 1) c = after m c from if_neg (Nat.succ_ne_zero _)]
  unfold Dat.owesAt Pipeline.owesWithin
  rw [show (dats m 0 c).owed t.castSucc = 0 from rfl, show (dats m 0 c).owed t.succ = 0 from rfl]
  iintro ⟨HB, ⟨%W, -, HW⟩, -⟩
  sl_rw [prog_eq t]
  iapply (body_run m c rfl)
  isplitl [HB HW]
  · isplitl [HB]; · iexact HB
    iexists W; iexact HW
  · iintro %a ⟨HA, ⟨%W', HW⟩⟩
    isplitl [HA]; · iexact HA
    isplitl [HW]
    · iexists W'; isplitr; · ipureintro; exact fun _ _ => Or.inl trivial
      iexact HW
    iempintro

/-! ## The run -/

/-- An assertion over two buffers. -/
theorem bigSep_pair {a b : Ref sig .tc} (h : a ≠ b) (Φ : Ref sig .tc → sProp 𝕄) : bigSep {a, b} Φ = iprop(Φ a ∗ Φ b) := by
  rw [bigSep_insert (by simpa using h), bigSep_singleton]; rfl

/-- What the host lines and the launch hand over is what the kernel starts from. -/
theorem enter (c : Dev nD) :
    (Pipeline.ΦDRV osem cfg0.spec {main_call0_v0, main_call0_v3} {main_call0_v4} (V m) (V m) c : sProp 𝕄) ⊢ (dats m 0 c).Φ 0 := by
  rw [show (dats m 0 c).Φ 0 = phi m 0 c from rfl, show phi m 0 c = before m c from if_pos rfl]
  unfold Pipeline.ΦDRV before scratch
  rw [Gen.scopedRest0_eq, ownSems_eq, bigSep_pair (by decide), bigSep_singleton]
  iintro ⟨⟨HX, HM, HO⟩, ⟨HsX, HsM, HsO⟩, ⟨H0, H3⟩, H4⟩
  isplitl [H0]; · iapply (entails_of_eq (holds_whole c main_call0_v0 _).symm); iexact H0
  isplitl [H3]; · iapply (entails_of_eq (holds_whole c main_call0_v3 _).symm); iexact H3
  isplitl [H4]; · iapply (entails_of_eq (anyV_whole c main_call0_v4).symm); iexists _; iexact H4
  isplitl [HX]; · iapply (entails_of_eq (anyV_whole c cc0_scratch0).symm); iexact HX
  isplitl [HM]; · iapply (entails_of_eq (anyV_whole c cc0_scratch1).symm); iexact HM
  isplitl [HO]; · iapply (entails_of_eq (anyV_whole c cc0_scratch2).symm); iexact HO
  isplitl [HsX]; · iexact HsX
  isplitl [HsM]; · iexact HsM
  iexact HsO
/-- What the kernel ends with is handed back, the result at the running sums. -/
theorem leave (c : Dev nD) :
    (dats m 0 c).Φ (Fin.last cfg0.N) ⊢ (Pipeline.ΦDRV osem cfg0.spec {main_call0_v0, main_call0_v3} {main_call0_v4} (V m) (G m) c : sProp 𝕄) := by
  have hN : cfg0.N = 1 := Gen.N_0
  rw [show (dats m 0 c).Φ (Fin.last cfg0.N) = phi m cfg0.N c from rfl, show phi m cfg0.N c = after m c from if_neg (by omega)]
  unfold Pipeline.ΦDRV after scratch
  rw [Gen.scopedRest0_eq, ownSems_eq, bigSep_pair (by decide), bigSep_singleton, G_out]
  iintro ⟨H0, H3, H4, HX, HM, HO, HsX, HsM, HsO⟩
  isplitl [HX HM HO]
  · isplitl [HX]; · iapply (entails_of_eq (anyV_whole c cc0_scratch0)); iexact HX
    isplitl [HM]; · iapply (entails_of_eq (anyV_whole c cc0_scratch1)); iexact HM
    iapply (entails_of_eq (anyV_whole c cc0_scratch2)); iexact HO
  isplitl [HsX HsM HsO]
  · isplitl [HsX]; · iexact HsX
    isplitl [HsM]; · iexact HsM
    iexact HsO
  isplitl [H0 H3]
  · isplitl [H0]; · iapply (entails_of_eq (holds_whole c main_call0_v0 _)); iexact H0
    iapply (entails_of_eq (holds_whole c main_call0_v3 _)); iexact H3
  iapply (entails_of_eq (holds_whole c main_call0_v4 _)); iexact H4

/-- The buffers after the kernel, before the last host line. -/
abbrev V1 (c : Dev nD) : Valuation τ sig (Elt F) :=
  Pipeline.withArrays cfg0.spec c (Pipeline.withR (V0 m c) {main_call0_v4} c (G m c)) fun w => (dats m 0 c).arrAt w cfg0.N

/-- Every execution ends, with each buffer as the last host line leaves it and every semaphore at zero. -/
theorem run_raw : θ_run defs (onTc (τ := τ) (main (F := F))) ⟨m, fun _ => 0, ρ⟩ (fun r => (∀ c : Dev nD,
      ∀ b ∈ Pipeline.restRefs sig cfg0.spec, r.2.mem ((c.tc : Thread nD τ).loc b) = StableHlo.after hostOps1 (V1 m c) (Proc.devRef .tc b))
      ∧ r.2.sem = fun _ => 0) :=
  Pipeline.θ_run_frame_dmaR_aroundV cfgs (dats m) (0 : Fin 1) Gen.launch0 osem defs₀ Variants.none ownSemFacts
    {main_call0_v0, main_call0_v3} {main_call0_v4} (by decide) (by decide) m ρ main
    (fun c => (body_obligation m _ c).loose) (fun c w => w.elim0) (fun _ _ => rfl) (V0 m) [hostOps1]
    Gen.sfx_sub Gen.sfx_fresh Gen.sfx_keeps (G m)
    (Pipeline.hmain_around cfgs 0 defs₀ _ m main [hostOps0] [hostOps1] (by simp only [List.Forall]; exact Gen.hostOps0_sub)
      (by simp only [List.Forall]; exact Gen.hostOps0_fresh) Gen.main_chain)
    (fun c w => w.elim0) (enter m) (leave m)
    (Q' := _) (hQ' := fun r h => ⟨fun c => (h.1 c).2, h.2⟩)

/-! ## The end of the program -/

/-- What the kernel finds as its values is the first argument, its batches put one below the other. -/
theorem xIn_eq (c : Dev nD) :
    xIn m c = shapeCast S32768x1024 (m ((c.tc : Thread nD τ).loc main_arg0) : FVec F S4x8192x1024 .f32) Gen.shapeCasts_S4x8192x1024_S32768x1024 := by
  unfold xIn V V0 hostOps0
  simp only [List.flatten_cons, List.flatten_nil, List.append_nil, List.cons_append, List.nil_append,
    StableHlo.TRef.reshape, StableHlo.TRef.unary, StableHlo.TRef.toBuf, StableHlo.TRef.ofBuf, cast_eq]
  after_results
  rfl

/-- What it finds as its mask is the second argument, likewise, each bit widened to a byte. -/
theorem mIn_eq (c : Dev nD) :
    mIn m c = extui 8 (shapeCast S32768x1024 (m ((c.tc : Thread nD τ).loc main_arg1) : IVec S4x8192x1024 1) Gen.shapeCasts_S4x8192x1024_S32768x1024) Gen.natLt_1_8 := by
  unfold mIn V V0 hostOps0
  simp only [List.flatten_cons, List.flatten_nil, List.append_nil, List.cons_append, List.nil_append,
    StableHlo.TRef.reshape, StableHlo.TRef.unary, StableHlo.TRef.toBuf, StableHlo.TRef.ofBuf, cast_eq]
  after_results
  rfl

/-- A buffer other than the kernel's result is, after the kernel, as the host lines before it left it. -/
theorem V1_ne (c : Dev nD) (b : Ref sig .tc) (h : b ∉ ({main_call0_v4} : Finset (Ref sig .tc)))
    (hb : ∀ w, Pipeline.arrRef cfg0.spec w ≠ b) : V1 m c (Proc.devRef .tc b) = V m c b := by
  unfold V1
  rw [Pipeline.withArrays_of_ne _ c _ _ b hb, Pipeline.withR_of_not_mem _ _ c _ b h]

/-- The kernel's result is, after it, at the running sums. -/
theorem V1_out (c : Dev nD) : V1 m c (Proc.devRef .tc main_call0_v4) = out m c := by
  unfold V1
  rw [Pipeline.withArrays_of_ne _ c _ _ main_call0_v4 (fun w => w.elim0),
    Pipeline.withR_of_mem _ _ c _ main_call0_v4 (by decide), G_out]

/-- Every execution ends with the arguments as they were, the result at the running sums reshaped to the four batches,
    and every semaphore at zero. -/
theorem run : θ_run defs (onTc (τ := τ) (main (F := F))) ⟨m, fun _ => 0, ρ⟩ (fun r => (∀ c : Dev nD,
      r.2.mem ((c.tc : Thread nD τ).loc main_v0) = shapeCast S4x8192x1024 (out m c) Gen.shapeCasts_S32768x1024_S4x8192x1024
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine (θ_run defs _ _).mono (fun r h => ⟨fun c => ⟨?_, ?_, ?_⟩, h.2⟩) (run_raw m ρ)
  · refine (h.1 c main_v0 (Pipeline.mem_restRefs_of main_v0 (by decide) (by decide))).trans ?_
    refine Eq.trans (b := (fun i => shapeCast S4x8192x1024 (V1 m c (Proc.devRef .tc main_call0_v4) : FVec F S32768x1024 .f32)
      Gen.shapeCasts_S32768x1024_S4x8192x1024 i)) ?_ ?_
    · unfold hostOps1
      simp only [StableHlo.TRef.reshape]
      after_results
      rfl
    · rw [V1_out]
  · refine (h.1 c main_arg0 (Pipeline.mem_restRefs_of main_arg0 (by decide) (by decide))).trans ?_
    refine Eq.trans (b := V1 m c (Proc.devRef .tc main_arg0)) ?_ ?_
    · unfold hostOps1
      simp only [StableHlo.TRef.reshape]
      after_results
    · exact (V1_ne m c main_arg0 (by decide) fun w => w.elim0).trans (Gen.V_main_arg0 m c)
  · refine (h.1 c main_arg1 (Pipeline.mem_restRefs_of main_arg1 (by decide) (by decide))).trans ?_
    refine Eq.trans (b := V1 m c (Proc.devRef .tc main_arg1)) ?_ ?_
    · unfold hostOps1
      simp only [StableHlo.TRef.reshape]
      after_results
    · exact (V1_ne m c main_arg1 (by decide) fun w => w.elim0).trans (Gen.V_main_arg1 m c)

end Cert.KernelIdeal

end
-- ==== Proof.RowSums.lean ====
/-
  The running sums over the extended reals.

  The ring program adds up blocks: within a block by a dot with the lower triangle of ones, from block to block by the
  row carried along. Read over the extended reals, row `r` of the array it leaves is the sum of the masked rows from
  the start of `r`'s batch (the last multiple of 8192 at or below `r`) up to `r` itself (`sums_apply`).
-/
module

public import proofs.«01_k».proof.Proof.RingBlocks
public import Idealize.ShloMosaic.Lib.Pointwise
public import Idealize.ShloMosaic.Lib.WordCmp

@[expose] public section

set_option maxRecDepth 16384

noncomputable section

namespace Cert.Proof.RingSum

open Idealize.ShloMosaic
open Finset (range)

/-- An element of the triangle: one where the row is at or past the column, zero elsewhere. -/
theorem tri_apply (a b : Fin 256) : (tri (F := Ideal)) (ix2 a b) = if b.val ≤ a.val then 1 else 0 := by
  have e : ∀ c : Fin 256, (BitVec.ofNat 32 c.val).toInt = (c.val : ℤ) := fun c => by
    have hc := c.isLt
    rw [BitVec.toInt_eq_toNat_cond, BitVec.toNat_ofNat, Nat.mod_eq_of_lt (by omega), if_pos (by omega)]
  pointwise [tri]
  rw [WordCmp.cmpi_sge_eq, e, e]
  by_cases h : b.val ≤ a.val
  · rw [if_pos h, decide_eq_true (by exact_mod_cast h)]
    show (((BitVec.setWidth 32 (BitVec.ofBool true)).toInt : ℝ) : EReal) = 1
    rw [show (BitVec.setWidth 32 (BitVec.ofBool true)).toInt = 1 by decide]; simp
  · rw [if_neg h, decide_eq_false (by exact_mod_cast h)]
    show (((BitVec.setWidth 32 (BitVec.ofBool false)).toInt : ℝ) : EReal) = 0
    rw [show (BitVec.setWidth 32 (BitVec.ofBool false)).toInt = 0 by decide]; simp

/-- An element of a masked block: the value where the mask's byte is not zero, zero elsewhere. -/
theorem maskB_apply (m : IVec SK 8) (x : FVec Ideal SK .f32) (j : SK.Idx) :
    maskB m x j = if m j = 0#8 then 0 else x j := by
  pointwise [maskB]
  rw [WordCmp.cmpi_ne_eq, Scalar.select_ofBool]
  by_cases h : m j = 0#8 <;> simp [h]

/-- An element of a result block: a row of the triangle against a column of the masked block, and the row carried in. -/
theorem outB_apply (x : FVec Ideal SK .f32) (m : IVec SK 8) (c : FVec Ideal SR .f32) (a : Fin 256) (q : Fin 1024) :
    outB x m c (ix2 a q) = (∑ b : Fin 256, tri (F := Ideal) (ix2 a b) * maskB m x (ix2 b q)) + c (ix2 0 q) := by
  pointwise [outB, dotd]

/-- The last row of a block is its row 255. -/
theorem lastR_apply (o : FVec Ideal SK .f32) (q : Fin 1024) : lastR o (ix2 0 q) = o (ix2 255 q) := by
  pointwise [lastR]

/-- The row of zeros is zero. -/
theorem zrow_apply (q : Fin 1024) : (zrow (F := Ideal)) (ix2 0 q) = 0 := by
  pointwise [zrow]

/-- The first `a + 1` of `N` terms. -/
theorem sum_upTo {M : Type} [AddCommMonoid M] (N : ℕ) (f : ℕ → M) (a : ℕ) (h : a < N) :
    (∑ b : Fin N, if b.val ≤ a then f b.val else 0) = ∑ n ∈ range (a + 1), f n := by
  rw [Fin.sum_univ_eq_sum_range (fun n => if n ≤ a then f n else 0) N, ← Finset.sum_filter]
  refine Finset.sum_congr (Finset.ext fun n => ?_) fun _ _ => rfl
  simp only [Finset.mem_filter, Finset.mem_range]; omega

section Blocks
variable (X : ℕ → FVec Ideal SK .f32) (Mk : ℕ → IVec SK 8) (q : Fin 1024)

/-- Column `q` of row `n` of the masked values, the rows counted through all blocks. -/
def masked (n : ℕ) : EReal := maskB (Mk (n / 256)) (X (n / 256)) (ix2 ⟨n % 256, Nat.mod_lt _ (by decide)⟩ q)

/-- Row `b` of masked block `k` is row `256 * k + b`. -/
theorem masked_block (k : ℕ) (b : Fin 256) : maskB (Mk k) (X k) (ix2 b q) = masked X Mk q (256 * k + b.val) := by
  have hb := b.isLt
  have e1 : (256 * k + b.val) / 256 = k := by omega
  have e2 : (256 * k + b.val) % 256 = b.val := by omega
  unfold masked
  simp only [e1, e2]

/-- A block of the result adds the block's masked rows, up to this one, to the row carried in. -/
theorem step_apply (k : ℕ) (c : FVec Ideal SR .f32) (a : Fin 256) :
    outB (X k) (Mk k) c (ix2 a q) = c (ix2 0 q) + ∑ n ∈ range (a.val + 1), masked X Mk q (256 * k + n) := by
  rw [outB_apply, add_comm]
  refine congrArg (c (ix2 0 q) + ·) ?_
  rw [← sum_upTo 256 (fun n => masked X Mk q (256 * k + n)) a.val a.isLt]
  refine Finset.sum_congr rfl fun b _ => ?_
  rw [tri_apply, masked_block]
  by_cases h : b.val ≤ a.val
  · rw [if_pos h, if_pos h]; exact one_mul _
  · rw [if_neg h, if_neg h]; exact zero_mul _

/-- The sum over the first rows of a batch, from its first row on: those of the blocks before `k`, then `d` of block `k`'s. -/
theorem batch_split (k d : ℕ) :
    (∑ n ∈ range (256 * (k % 32) + d), masked X Mk q (8192 * (k / 32) + n))
      = (∑ n ∈ range (256 * (k % 32)), masked X Mk q (8192 * (k / 32) + n)) + ∑ n ∈ range d, masked X Mk q (256 * k + n) := by
  rw [Finset.sum_range_add]
  refine congrArg (_ + ·) (Finset.sum_congr rfl fun n _ => congrArg _ ?_)
  omega

/-- The row carried into block `k` is the sum of its batch's rows in the blocks before it. -/
theorem carry_apply (k : ℕ) : carryIn k (carryAt X Mk k) (ix2 0 q)
    = ∑ n ∈ range (256 * (k % 32)), masked X Mk q (8192 * (k / 32) + n) := by
  induction k with
  | zero => rw [carry_reset (by rfl), zrow_apply]; rfl
  | succ k ih =>
    by_cases h : (k + 1) % 32 = 0
    · rw [carry_reset h, zrow_apply, h]; rfl
    · rw [carry_keep h]
      show lastR (outB (X k) (Mk k) (carryIn k (carryAt X Mk k))) (ix2 0 q) = _
      rw [lastR_apply, step_apply, ih, ← batch_split]
      have e1 : (k + 1) / 32 = k / 32 := by omega
      have e2 : 256 * ((k + 1) % 32) = 256 * (k % 32) + ((255 : Fin 256).val + 1) := by
        show _ = 256 * (k % 32) + 256; omega
      rw [e1, e2]

/-- Row `a` of block `k` of the result is the sum of its batch's rows up to and including it. -/
theorem outAt_apply (k : ℕ) (a : Fin 256) : outAt X Mk k (ix2 a q)
    = ∑ n ∈ range (256 * (k % 32) + (a.val + 1)), masked X Mk q (8192 * (k / 32) + n) := by
  show outB (X k) (Mk k) (carryIn k (carryAt X Mk k)) (ix2 a q) = _
  rw [step_apply, carry_apply, ← batch_split]

end Blocks

/-- Row `8192 * b + r` of the array that the ring program leaves: the sum, over the rows of batch `b` up to row `r`, of the
    values under the mask. -/
theorem sums_apply (x : FVec Ideal SX .f32) (m : IVec SX 8) (b : Fin 4) (r : Fin 8192) (q : Fin 1024) (i : Fin 32768)
    (hi : i.val = 8192 * b.val + r.val) :
    sums x m (ix2 i q) = ∑ n ∈ range (r.val + 1), (if m (atRow (8192 * b.val + n) q) = 0#8 then 0 else x (atRow (8192 * b.val + n) q)) := by
  have hr := r.isLt
  show outAt (blockOf x) (blockOf m) (i.val / 256) (ix2 ⟨i.val % 256, _⟩ q) = _
  rw [outAt_apply]
  have e1 : 256 * (i.val / 256 % 32) + (i.val % 256 + 1) = r.val + 1 := by omega
  have e2 : i.val / 256 / 32 = b.val := by omega
  simp only [e1, e2]
  refine Finset.sum_congr rfl fun n _ => ?_
  have e3 : 256 * ((8192 * b.val + n) / 256) + (8192 * b.val + n) % 256 = 8192 * b.val + n := by omega
  unfold masked
  rw [maskB_apply]
  show (if m (atRow (256 * ((8192 * b.val + n) / 256) + (8192 * b.val + n) % 256) q) = 0#8 then 0
    else x (atRow (256 * ((8192 * b.val + n) / 256) + (8192 * b.val + n) % 256) q)) = _
  rw [e3]

end Cert.Proof.RingSum

end
-- ==== Proof.WindowSum.lean ====
/-
  The reference's running sum over the extended reals.

  The reference sums, for each row of each batch, a window of 8192 rows that ends at that row; the rows before the first
  are padding and hold zero. So the window's sum is the sum of the batch's rows up to that row (`window_apply`).
-/
module

public import Idealize.ShloMosaic.Lib.Pointwise
public import Idealize.ShloMosaic.PureOps

@[expose] public section

set_option maxRecDepth 16384

noncomputable section

namespace Cert.Proof.RingSum

open Idealize.ShloMosaic
open Finset (range)

/-- Four batches of 8192 rows. -/
abbrev SQ : Shape := ⟨3, ![4, 8192, 1024]⟩
/-- The window: 8192 rows of one column. -/
abbrev SW : Shape := ⟨3, ![1, 8192, 1]⟩

/-- Adding up a list from the left, from a starting value. -/
theorem foldl_add {ι : Type} (l : List ι) (f : ι → EReal) (v : EReal) :
    l.foldl (fun r n => r + f n) v = v + (l.map f).sum := by
  induction l generalizing v with
  | nil => simp
  | cons n l ih => rw [List.foldl_cons, ih, List.map_cons, List.sum_cons, add_assoc]

/-- A window that ends at row `r` reads rows `0` to `r`: its first `N - r` rows are padding. -/
theorem sum_window_end (N r : ℕ) (h : r ≤ N) (f : ℕ → EReal) :
    (∑ w : Fin (N + 1), if N ≤ r + w.val then f (r + w.val - N) else 0) = ∑ n ∈ range (r + 1), f n := by
  obtain ⟨d, rfl⟩ : ∃ d, N = r + d := ⟨N - r, by omega⟩
  rw [Fin.sum_univ_eq_sum_range (fun w => if r + d ≤ r + w then f (r + w - (r + d)) else 0) (r + d + 1),
    show r + d + 1 = d + (r + 1) by omega, Finset.sum_range_add,
    Finset.sum_eq_zero (fun w hw => if_neg (by have := Finset.mem_range.1 hw; omega)), zero_add]
  refine Finset.sum_congr rfl fun n _ => ?_
  rw [if_pos (by omega), show r + (d + n) - (r + d) = n by omega]

section Window
variable {φ : FTy} {s t u : Shape} (window strides lo hi : Fin s.rank → Nat) (x : FVec Ideal s φ) (v : EReal)
  (h : s.ReduceWindows window strides lo hi t) (j : t.Idx)

/-- What the window of result index `j` holds at position `w`: the array's element there, or `v` where that is padding. -/
def windowAt (w : (⟨s.rank, window⟩ : Shape).Idx) : EReal :=
  if hin : ∀ a, lo a ≤ (j (a.cast h.1.symm)).val * strides a + (w a).val
      ∧ (j (a.cast h.1.symm)).val * strides a + (w a).val - lo a < s.size a then
    x (fun a => ⟨(j (a.cast h.1.symm)).val * strides a + (w a).val - lo a, (hin a).2⟩) else v

/-- A window sum is the starting value and the sum over the window's positions. -/
theorem window_eq_sum (init : FVec Ideal u φ) (hu : 0 < u.numel) (hv : init (Shape.Idx.first hu) = v) :
    Host.reduceWindowAdd window strides lo hi x init h hu j
      = v + ∑ w : (⟨s.rank, window⟩ : Shape).Idx, windowAt window strides lo hi x v h j w := by
  subst hv
  rw [← Equiv.sum_comp (⟨s.rank, window⟩ : Shape).rowMajor.symm, Fin.sum_univ_def]
  unfold Host.reduceWindowAdd
  rw [Ideal.hostReduceWindowAdd_def]
  unfold Ideal.hostReduceWindowAdd Host.reduceWindow
  dsimp only
  refine Eq.trans ?_ (foldl_add (List.finRange (⟨s.rank, window⟩ : Shape).numel)
    (fun n => windowAt window strides lo hi x (init (Shape.Idx.first hu)) h j ((⟨s.rank, window⟩ : Shape).rowMajor.symm n)) (init (Shape.Idx.first hu)))
  unfold windowAt
  congr!

end Window

/-- The window's sum at row `r` of batch `b`, column `q`: the rows of the batch up to `r`, added up. -/
theorem window_apply (x : FVec Ideal SQ .f32) (v : FVec Ideal ⟨0, ![]⟩ .f32)
    (hw : SQ.ReduceWindows ![1, 8192, 1] ![1, 1, 1] ![0, 8191, 0] ![0, 0, 0] SQ) (h0 : 0 < (⟨0, ![]⟩ : Shape).numel)
    (hv : v (Shape.Idx.first h0) = 0) (b : Fin 4) (r : Fin 8192) (q : Fin 1024) :
    Host.reduceWindowAdd ![1, 8192, 1] ![1, 1, 1] ![0, 8191, 0] ![0, 0, 0] x v hw h0 (ix3 b r q)
      = ∑ n ∈ range (r.val + 1), x (ix3 b ⟨n % 8192, Nat.mod_lt _ (by decide)⟩ q) := by
  have hr := r.isLt
  have hb := b.isLt
  have hq := q.isLt
  rw [window_eq_sum _ _ _ _ x 0 hw _ v h0 hv]
  refine (zero_add _).trans ((sum_idx3 (n0 := 1) (n1 := 8192) (n2 := 1) _).trans ?_)
  rw [← sum_window_end 8191 r.val (by omega) fun n => x (ix3 b ⟨n % 8192, Nat.mod_lt _ (by decide)⟩ q)]
  rw [Fin.sum_univ_one]
  refine Finset.sum_congr rfl fun w _ => ?_
  rw [Fin.sum_univ_one]
  have hwlt := w.isLt
  by_cases hle : 8191 ≤ r.val + w.val
  · rw [if_pos hle]
    refine (dif_pos ?_).trans (congrArg x ?_)
    · intro a
      match a with
      | ⟨0, _⟩ => show 0 ≤ b.val * 1 + 0 ∧ b.val * 1 + 0 - 0 < 4; omega
      | ⟨1, _⟩ => show 8191 ≤ r.val * 1 + w.val ∧ r.val * 1 + w.val - 8191 < 8192; omega
      | ⟨2, _⟩ => show 0 ≤ q.val * 1 + 0 ∧ q.val * 1 + 0 - 0 < 1024; omega
    · funext a
      apply Fin.ext
      match a with
      | ⟨0, _⟩ => show b.val * 1 + 0 - 0 = b.val; omega
      | ⟨1, _⟩ => show r.val * 1 + w.val - 8191 = (r.val + w.val - 8191) % 8192; omega
      | ⟨2, _⟩ => show q.val * 1 + 0 - 0 = q.val; omega
  · rw [if_neg hle]
    refine dif_neg fun hin => hle ?_
    have h1 : 8191 ≤ r.val * 1 + w.val ∧ r.val * 1 + w.val - 8191 < 8192 := hin 1
    omega

end Cert.Proof.RingSum

end
-- ==== Proof.Agreement.lean ====
/-
  The kernel's result and the reference's are one array.

  Both are read at an index over the extended reals: the kernel's as the sum of its batch's rows up to this one, off the
  arrays with the batches put one below the other (`sums_apply`), the reference's as the sum of a window that ends at this
  row (`window_apply`). Row by row the summands are the same element of the argument or zero, by the same bit of the mask.
-/
module

public import proofs.«01_k».proof.Proof.RowSums
public import proofs.«01_k».proof.Proof.WindowSum

@[expose] public section

set_option maxRecDepth 16384

noncomputable section

namespace Cert.Proof.RingSum

open Idealize.ShloMosaic
open Finset (range)

/-- No axes: the shape of a single value. -/
abbrev SZ : Shape := ⟨0, ![]⟩

variable (x : FVec Ideal SQ .f32) (mk : IVec SQ 1) (hc : SQ.ShapeCasts SX) (hd : SX.ShapeCasts SQ) (hlt : 1 < 8)

/-- What the kernel leaves as its result. -/
abbrev kernelValue : FVec Ideal SQ .f32 :=
  shapeCast SQ (sums (shapeCast SX x hc) (extui 8 (shapeCast SX mk hc) hlt)) hd

/-- What the reference leaves as its result. -/
abbrev referenceValue (hb : SZ.BroadcastsInDim SQ ![]) (hz : SZ.BroadcastsInDim SZ ![])
    (hw : SQ.ReduceWindows ![1, 8192, 1] ![1, 1, 1] ![0, 8191, 0] ![0, 0, 0] SQ) (h0 : 0 < SZ.numel) : FVec Ideal SQ .f32 :=
  Host.reduceWindowAdd ![1, 8192, 1] ![1, 1, 1] ![0, 8191, 0] ![0, 0, 0]
    (select mk x (broadcastInDim SQ ![] hb (constant SZ .f32 0x00000000#32)))
    (broadcastInDim SZ ![] hz (constant SZ .f32 0x00000000#32)) hw h0

/-- The batches one below the other: row `8192 * b + n` is row `n` of batch `b`. -/
theorem stacked {α : Type} (v : SQ.Idx → α) (b : Fin 4) (n : ℕ) (hn : n < 8192) (q : Fin 1024) :
    shapeCast SX v hc (atRow (8192 * b.val + n) q) = v (ix3 b ⟨n % 8192, Nat.mod_lt _ (by decide)⟩ q) := by
  have hb := b.isLt
  unfold atRow
  pointwise
  have e1 : (8192 * b.val + n) % 32768 / 8192 = b.val := by omega
  have e2 : (8192 * b.val + n) % 32768 % 8192 = n % 8192 := by omega
  simp only [e1, e2]

/-- A bit widened to a byte is zero exactly where the bit is. -/
theorem widened (c : BitVec 1) : BitVec.setWidth 8 c = 0#8 ↔ c ≠ 1#1 := by revert c; decide

/-- Element by element the two are the same sum. -/
theorem values_eq (hb : SZ.BroadcastsInDim SQ ![]) (hz : SZ.BroadcastsInDim SZ ![])
    (hw : SQ.ReduceWindows ![1, 8192, 1] ![1, 1, 1] ![0, 8191, 0] ![0, 0, 0] SQ) (h0 : 0 < SZ.numel) :
    kernelValue x mk hc hd hlt = referenceValue x mk hb hz hw h0 := by
  funext j
  obtain ⟨b, r, q, rfl⟩ : ∃ (b : Fin 4) (r : Fin 8192) (q : Fin 1024), j = ix3 b r q := ⟨j 0, j 1, j 2, eq_ix3 j⟩
  have hbl := b.isLt
  have hrl := r.isLt
  unfold kernelValue referenceValue
  rw [window_apply _ _ hw h0 (by pointwise)]
  have e : shapeCast SQ (sums (shapeCast SX x hc) (extui 8 (shapeCast SX mk hc) hlt)) hd (ix3 b r q)
      = sums (shapeCast SX x hc) (extui 8 (shapeCast SX mk hc) hlt) (ix2 ⟨8192 * b.val + r.val, by omega⟩ q) := by
    pointwise
    simp only [Nat.mul_comm]
  rw [e, sums_apply _ _ b r q _ rfl]
  refine Finset.sum_congr rfl fun n hn => ?_
  have hn' : n < 8192 := by have := Finset.mem_range.1 hn; omega
  rw [show (extui 8 (shapeCast SX mk hc) hlt) (atRow (8192 * b.val + n) q)
    = BitVec.setWidth 8 (shapeCast SX mk hc (atRow (8192 * b.val + n) q)) from rfl, stacked hc mk b n hn' q, stacked hc x b n hn' q]
  pointwise
  by_cases h : mk (ix3 b ⟨n % 8192, Nat.mod_lt _ (by decide)⟩ q) = 1#1
  · rw [if_neg fun h0 => (widened _).1 h0 h, Scalar.select_of_eq_one h]
  · rw [if_pos ((widened _).2 h), Scalar.select_of_ne_one h]

end Cert.Proof.RingSum

end
-- ==== Proof.lean ====
/-
  The certificate: the kernel, its idealization and the reference run without a fault, leave their arguments as they
  were and every semaphore at zero, and over the extended reals the kernel's result is the reference's.
-/
module

public import proofs.«01_k».proof.Defs
public import proofs.«01_k».proof.Proof.KernelRun
public import proofs.«01_k».proof.Proof.KernelIdealRun
public import proofs.«01_k».proof.Proof.Agreement
public import proofs.«01_k».proof.Proof.Gen.ReferenceIdeal.Run

@[expose] public section

set_option maxRecDepth 16384

noncomputable section

namespace Cert.Proof

open Idealize.ShloMosaic Idealize.ShloMosaic.TcCoe Idealize.SL.Sem

/-- The kernel, at the machine's own numbers, ends with its arguments unchanged and every semaphore at zero. -/
theorem frame_kernel : Cert.quiescent_Kernel := fun m g _ =>
  (θ_run Cert.Kernel.defs _ _).mono (fun _ h => ⟨fun c => (h.1 c).2, h.2⟩) (Cert.Kernel.run (F := Bits) m g)

/-- So does the idealized kernel over the extended reals. -/
theorem frame_ideal : Cert.quiescent_KernelIdeal := fun m g _ =>
  (θ_run Cert.KernelIdeal.defs _ _).mono (fun _ h => ⟨fun c => (h.1 c).2, h.2⟩) (Cert.KernelIdeal.run (F := Ideal) m g)

/-- So does the reference, which has no semaphore. -/
theorem frame_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

/-- From equal arguments the idealized kernel and the reference end with equal results. -/
theorem agree : Cert.algebraic_KernelIdeal_ReferenceIdeal := by
  intro m g m' g' _ hargs
  refine ⟨fun c => RingSum.kernelValue (m ((c.tc : Thread _ Cert.KernelIdeal.τ).loc Cert.KernelIdeal.main_arg0))
      (m ((c.tc : Thread _ Cert.KernelIdeal.τ).loc Cert.KernelIdeal.main_arg1)) Cert.KernelIdeal.Gen.shapeCasts_S4x8192x1024_S32768x1024
      Cert.KernelIdeal.Gen.shapeCasts_S32768x1024_S4x8192x1024 Cert.KernelIdeal.Gen.natLt_1_8, ?_, ?_⟩
  · refine (θ_run Cert.KernelIdeal.defs _ _).mono (fun _ h c => ⟨(h.1 c).1.trans ?_, (h.1 c).2⟩)
      (Cert.KernelIdeal.run (F := Ideal) m g)
    unfold Cert.KernelIdeal.out
    rw [Cert.KernelIdeal.xIn_eq, Cert.KernelIdeal.mIn_eq]
  · refine (θ_run Cert.ReferenceIdeal.defs _ _).mono (fun _ h c => ⟨(h c).1.trans ?_, (h c).2⟩)
      (Cert.ReferenceIdeal.Value.run (F := Ideal) m' g')
    refine Eq.trans ?_ (RingSum.values_eq _ _ _ _ _ Cert.ReferenceIdeal.Gen.bcast_S_S4x8192x1024 Cert.ReferenceIdeal.Gen.bcast_S_S_
      Cert.ReferenceIdeal.Gen.reduceWindows_S4x8192x1024_S4x8192x1024_w1s1p0_0_w8192s1p8191_0_w1s1p0_0 Cert.ReferenceIdeal.Gen.h_S_).symm
    rw [(hargs c).1, (hargs c).2]

/-- The whole certificate. -/
theorem claim : Cert.Claim := ⟨Cert.Kernel.Gen.facts, Cert.KernelIdeal.Gen.facts, Cert.ReferenceIdeal.Gen.facts,
  frame_kernel, frame_ideal, frame_reference, trivial, agree⟩

end Cert.Proof

end
